-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_mask_finite_weights [hPre_full_mask_finite_weights : Cert.Pre_full_mask_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_full_mask_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_mask_finite_weights [hPre_full_mask_finite_weights : Cert.Pre_full_mask_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_mask_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_full_mask_finite_weights [hKernelIdeal : Cert.KernelIdeal.Facts] [hPre_full_mask_finite_weights : Cert.Pre_full_mask_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_mask_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_full_mask_finite_weights [hReferenceIdeal : Cert.ReferenceIdeal.Facts] [hPre_full_mask_finite_weights : Cert.Pre_full_mask_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_mask_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "c" .f32 0x3E38AA3B#32 (((1 / 8) * (Real.log 2)⁻¹ : ℝ) : EReal)

def algebraic_KernelIdeal_ReferenceIdeal_pre_full_mask_finite_weights [hKernelIdeal : Cert.KernelIdeal.Facts] [hReferenceIdeal : Cert.ReferenceIdeal.Facts] [hPre_full_mask_finite_weights : Cert.Pre_full_mask_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_mask_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_full_mask_finite_weights : Cert.Pre_full_mask_finite_weights.Facts),
    quiescent_Kernel (hKernel := hKernel)
    ∧ quiescent_KernelIdeal (hKernelIdeal := hKernelIdeal)
    ∧ quiescent_KernelIdeal_pre_full_mask_finite_weights (hKernelIdeal := hKernelIdeal) (hPre_full_mask_finite_weights := hPre_full_mask_finite_weights)
    ∧ quiescent_ReferenceIdeal (hReferenceIdeal := hReferenceIdeal)
    ∧ quiescent_ReferenceIdeal_pre_full_mask_finite_weights (hReferenceIdeal := hReferenceIdeal) (hPre_full_mask_finite_weights := hPre_full_mask_finite_weights)
    ∧ preserves_Kernel_KernelIdeal
    ∧ algebraic_KernelIdeal_ReferenceIdeal_pre_full_mask_finite_weights (hKernelIdeal := hKernelIdeal) (hReferenceIdeal := hReferenceIdeal) (hPre_full_mask_finite_weights := hPre_full_mask_finite_weights)
-- ==== Pre_full_mask_finite_weights.lean ====
abbrev S128x512x8 : Shape := ⟨3, ![128, 512, 8]⟩
abbrev S128x512x1 : Shape := ⟨3, ![128, 512, 1]⟩
abbrev S8x64 : Shape := ⟨2, ![8, 64]⟩
abbrev S64 : Shape := ⟨1, ![64]⟩
abbrev S2x2x64x64 : Shape := ⟨4, ![2, 2, 64, 64]⟩
abbrev S2x2x64 : Shape := ⟨3, ![2, 2, 64]⟩
abbrev S2x2x128x64 : Shape := ⟨4, ![2, 2, 128, 64]⟩
abbrev S64x64 : Shape := ⟨2, ![64, 64]⟩
abbrev S16x64 : Shape := ⟨2, ![16, 64]⟩
abbrev S_ : Shape := ⟨0, ![]⟩

class Facts : Prop where
  bcast_S_S128x512x1 : S_.BroadcastsInDim S128x512x1 (![] : Fin 0 → Fin S128x512x1.rank)
  reducesTo_S128x512x1_S_d0_1_2 : S128x512x1.ReducesTo [0, 1, 2] S_
  h_S_ : 0 < S_.numel
  slices_S2x2x128x64_S2x2x64x64_0_0_64_0 : S2x2x128x64.Slices ![0, 0, 64, 0] S2x2x64x64
  bcast_S_S2x2x64x64 : S_.BroadcastsInDim S2x2x64x64 (![] : Fin 0 → Fin S2x2x64x64.rank)
  reducesTo_S2x2x64x64_S_d0_1_2_3 : S2x2x64x64.ReducesTo [0, 1, 2, 3] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_arg9 : FVec F S64x64 .f32) (main_arg10 : FVec F S16x64 .f32) (main_v13 : IVec S_ 1) (main_v16 : IVec S2x2x64x64 1) : IVec S_ 1 :=
  let main_c_5 : IVec S_ 1 := constantI S_ 1 1#1
  let main_v17 : IVec S_ 1 := (fun x v => Host.reduce IntOp.andi x v reducesTo_S2x2x64x64_S_d0_1_2_3 h_S_) main_v16 main_c_5
  let main_v18 : IVec S_ 1 := andi main_v13 main_v17
  let main_v19 : FVec F S64x64 .f32 := Host.absf main_arg9
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S16x64 .f32 := Host.absf main_arg10
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  main_v28

def fn {F : FTy → Type} [FloatOps F] (main_arg0 : FVec F S128x512x8 .f32) (main_arg1 : FVec F S128x512x1 .f32) (main_arg2 : FVec F S8x64 .f32) (main_arg3 : FVec F S64 .f32) (main_arg4 : FVec F S2x2x64x64 .f32) (main_arg5 : FVec F S2x2x64x64 .f32) (main_arg6 : FVec F S2x2x64 .f32) (main_arg7 : FVec F S2x2x128x64 .f32) (main_arg8 : FVec F S2x2x64 .f32) (main_arg9 : FVec F S64x64 .f32) (main_arg10 : FVec F S16x64 .f32) (main_arg11 : FVec F S64x64 .f32) (main_arg12 : FVec F S64 .f32) : IVec S_ 1 :=
  let main_cst : FVec F S_ .f32 := constant S_ .f32 0x3F800000#32
  let main_v0 : FVec F S128x512x1 .f32 := broadcastInDim S128x512x1 ![] bcast_S_S128x512x1 main_cst
  let main_v1 : IVec S128x512x1 1 := cmpf .oeq main_arg1 main_v0
  let main_c : IVec S_ 1 := constantI S_ 1 1#1
  let main_v2 : IVec S_ 1 := (fun x v => Host.reduce IntOp.andi x v reducesTo_S128x512x1_S_d0_1_2 h_S_) main_v1 main_c
  let main_v3 : FVec F S2x2x64x64 .f32 := (extractStridedSlice S2x2x64x64 ![0, 0, 64, 0] · slices_S2x2x128x64_S2x2x64x64_0_0_64_0) main_arg7
  let main_v4 : FVec F S2x2x64x64 .f32 := Host.absf main_arg4
  let main_cst_0 : FVec F S_ .f32 := constant S_ .f32 0x7F800000#32
  let main_v5 : FVec F S2x2x64x64 .f32 := broadcastInDim S2x2x64x64 ![] bcast_S_S2x2x64x64 main_cst_0
  let main_v6 : IVec S2x2x64x64 1 := cmpf .olt main_v4 main_v5
  let main_c_1 : IVec S_ 1 := constantI S_ 1 1#1
  let main_v7 : IVec S_ 1 := (fun x v => Host.reduce IntOp.andi x v reducesTo_S2x2x64x64_S_d0_1_2_3 h_S_) main_v6 main_c_1
  let main_v8 : IVec S_ 1 := andi main_v2 main_v7
  let main_v9 : FVec F S2x2x64x64 .f32 := Host.absf main_arg5
  let main_cst_2 : FVec F S_ .f32 := constant S_ .f32 0x7F800000#32
  let main_v10 : FVec F S2x2x64x64 .f32 := broadcastInDim S2x2x64x64 ![] bcast_S_S2x2x64x64 main_cst_2
  let main_v11 : IVec S2x2x64x64 1 := cmpf .olt main_v9 main_v10
  let main_c_3 : IVec S_ 1 := constantI S_ 1 1#1
  let main_v12 : IVec S_ 1 := (fun x v => Host.reduce IntOp.andi x v reducesTo_S2x2x64x64_S_d0_1_2_3 h_S_) main_v11 main_c_3
  let main_v13 : IVec S_ 1 := andi main_v8 main_v12
  let main_v14 : FVec F S2x2x64x64 .f32 := Host.absf main_v3
  let main_cst_4 : FVec F S_ .f32 := constant S_ .f32 0x7F800000#32
  let main_v15 : FVec F S2x2x64x64 .f32 := broadcastInDim S2x2x64x64 ![] bcast_S_S2x2x64x64 main_cst_4
  let main_v16 : IVec S2x2x64x64 1 := cmpf .olt main_v14 main_v15
  fn_part1 (F := F) main_arg9 main_arg10 main_v13 main_v16
-- ==== Kernel.lean ====
abbrev S128x512x8 : Shape := ⟨3, ![128, 512, 8]⟩
abbrev S128x512x1 : Shape := ⟨3, ![128, 512, 1]⟩
abbrev S8x64 : Shape := ⟨2, ![8, 64]⟩
abbrev S64 : Shape := ⟨1, ![64]⟩
abbrev S2x2x64x64 : Shape := ⟨4, ![2, 2, 64, 64]⟩
abbrev S2x2x64 : Shape := ⟨3, ![2, 2, 64]⟩
abbrev S2x2x128x64 : Shape := ⟨4, ![2, 2, 128, 64]⟩
abbrev S64x64 : Shape := ⟨2, ![64, 64]⟩
abbrev S16x64 : Shape := ⟨2, ![16, 64]⟩
abbrev S1x64 : Shape := ⟨2, ![1, 64]⟩
abbrev S2x2x64x192 : Shape := ⟨4, ![2, 2, 64, 192]⟩
abbrev S128x1x64 : Shape := ⟨3, ![128, 1, 64]⟩
abbrev S16x512x8 : Shape := ⟨3, ![16, 512, 8]⟩
abbrev S16x1x64 : Shape := ⟨3, ![16, 1, 64]⟩
abbrev S1x512x8 : Shape := ⟨3, ![1, 512, 8]⟩
abbrev S512x8 : Shape := ⟨2, ![512, 8]⟩
abbrev S512x64 : Shape := ⟨2, ![512, 64]⟩
abbrev S1x1x64x192 : Shape := ⟨4, ![1, 1, 64, 192]⟩
abbrev S64x192 : Shape := ⟨2, ![64, 192]⟩
abbrev S64x128 : Shape := ⟨2, ![64, 128]⟩
abbrev S1x1x64 : Shape := ⟨3, ![1, 1, 64]⟩
abbrev S512x192 : Shape := ⟨2, ![512, 192]⟩
abbrev S512x512 : Shape := ⟨2, ![512, 512]⟩
abbrev S512x1 : Shape := ⟨2, ![512, 1]⟩
abbrev S512x65 : Shape := ⟨2, ![512, 65]⟩
abbrev S64x512 : Shape := ⟨2, ![64, 512]⟩
abbrev S64x65 : Shape := ⟨2, ![64, 65]⟩
abbrev S64x1 : Shape := ⟨2, ![64, 1]⟩
abbrev S16x65 : Shape := ⟨2, ![16, 65]⟩
abbrev S16x1 : Shape := ⟨2, ![16, 1]⟩

abbrev nBuf : Space → Nat
  | .hbm => 22
  | .vmem => 12
  | .smem => 0
  | _ => 0

abbrev bufTy : (tb : Table) → Fin (tcTables nBuf tb) → BufTy
  | .hbm, ⟨0, _⟩ => ⟨S128x512x8, .f32⟩
  | .hbm, ⟨1, _⟩ => ⟨S128x512x1, .f32⟩
  | .hbm, ⟨2, _⟩ => ⟨S8x64, .f32⟩
  | .hbm, ⟨3, _⟩ => ⟨S64, .f32⟩
  | .hbm, ⟨4, _⟩ => ⟨S2x2x64x64, .f32⟩
  | .hbm, ⟨5, _⟩ => ⟨S2x2x64x64, .f32⟩
  | .hbm, ⟨6, _⟩ => ⟨S2x2x64, .f32⟩
  | .hbm, ⟨7, _⟩ => ⟨S2x2x128x64, .f32⟩
  | .hbm, ⟨8, _⟩ => ⟨S2x2x64, .f32⟩
  | .hbm, ⟨9, _⟩ => ⟨S64x64, .f32⟩
  | .hbm, ⟨10, _⟩ => ⟨S16x64, .f32⟩
  | .hbm, ⟨11, _⟩ => ⟨S64x64, .f32⟩
  | .hbm, ⟨12, _⟩ => ⟨S64, .f32⟩
  | .hbm, ⟨13, _⟩ => ⟨S1x64, .f32⟩
  | .hbm, ⟨14, _⟩ => ⟨S1x64, .f32⟩
  | .hbm, ⟨15, _⟩ => ⟨S2x2x64x64, .f32⟩
  | .hbm, ⟨16, _⟩ => ⟨S2x2x64x64, .f32⟩
  | .hbm, ⟨17, _⟩ => ⟨S2x2x64, .f32⟩
  | .hbm, ⟨18, _⟩ => ⟨S2x2x64, .f32⟩
  | .hbm, ⟨19, _⟩ => ⟨S2x2x64x64, .f32⟩
  | .hbm, ⟨20, _⟩ => ⟨S2x2x64x192, .f32⟩
  | .hbm, ⟨21, _⟩ => ⟨S128x1x64, .f32⟩
  | .local _ .vmem, ⟨0, _⟩ => ⟨S16x512x8, .f32⟩
  | .local _ .vmem, ⟨1, _⟩ => ⟨S16x512x8, .f32⟩
  | .local _ .vmem, ⟨2, _⟩ => ⟨S8x64, .f32⟩
  | .local _ .vmem, ⟨3, _⟩ => ⟨S1x64, .f32⟩
  | .local _ .vmem, ⟨4, _⟩ => ⟨S2x2x64x192, .f32⟩
  | .local _ .vmem, ⟨5, _⟩ => ⟨S2x2x64, .f32⟩
  | .local _ .vmem, ⟨6, _⟩ => ⟨S64x64, .f32⟩
  | .local _ .vmem, ⟨7, _⟩ => ⟨S16x64, .f32⟩
  | .local _ .vmem, ⟨8, _⟩ => ⟨S64x64, .f32⟩
  | .local _ .vmem, ⟨9, _⟩ => ⟨S1x64, .f32⟩
  | .local _ .vmem, ⟨10, _⟩ => ⟨S16x1x64, .f32⟩
  | .local _ .vmem, ⟨11, _⟩ => ⟨S16x1x64, .f32⟩
  | _, _ => ⟨S128x512x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x64x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x1x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "c" => some (((1 / 8) * (Real.log 2)⁻¹ : ℝ) : EReal)
  | _ => none
-- ==== ReferenceIdeal.lean ====
abbrev S128x512x8 : Shape := ⟨3, ![128, 512, 8]⟩
abbrev S128x512x1 : Shape := ⟨3, ![128, 512, 1]⟩
abbrev S8x64 : Shape := ⟨2, ![8, 64]⟩
abbrev S64 : Shape := ⟨1, ![64]⟩
abbrev S2x2x64x64 : Shape := ⟨4, ![2, 2, 64, 64]⟩
abbrev S2x2x64 : Shape := ⟨3, ![2, 2, 64]⟩
abbrev S2x2x128x64 : Shape := ⟨4, ![2, 2, 128, 64]⟩
abbrev S64x64 : Shape := ⟨2, ![64, 64]⟩
abbrev S16x64 : Shape := ⟨2, ![16, 64]⟩
abbrev S128x512x64 : Shape := ⟨3, ![128, 512, 64]⟩
abbrev S1x1x64 : Shape := ⟨3, ![1, 1, 64]⟩
abbrev S1x2x64x64 : Shape := ⟨4, ![1, 2, 64, 64]⟩
abbrev S2x64x64 : Shape := ⟨3, ![2, 64, 64]⟩
abbrev S1x2x64 : Shape := ⟨3, ![1, 2, 64]⟩
abbrev S2x64 : Shape := ⟨2, ![2, 64]⟩
abbrev S1x2x128x64 : Shape := ⟨4, ![1, 2, 128, 64]⟩
abbrev S2x128x64 : Shape := ⟨3, ![2, 128, 64]⟩
abbrev S1x64x64 : Shape := ⟨3, ![1, 64, 64]⟩
abbrev S64x128x512 : Shape := ⟨3, ![64, 128, 512]⟩
abbrev S128x512x512 : Shape := ⟨3, ![128, 512, 512]⟩
abbrev S_ : Shape := ⟨0, ![]⟩
abbrev S128x1x512 : Shape := ⟨3, ![128, 1, 512]⟩
abbrev S128x512 : Shape := ⟨2, ![128, 512]⟩
abbrev S1x64 : Shape := ⟨2, ![1, 64]⟩
abbrev S128x512x128 : Shape := ⟨3, ![128, 512, 128]⟩
abbrev S1x128x64 : Shape := ⟨3, ![1, 128, 64]⟩
abbrev S128x64 : Shape := ⟨2, ![128, 64]⟩
abbrev S128x64x512 : Shape := ⟨3, ![128, 64, 512]⟩
abbrev S128x64x1 : Shape := ⟨3, ![128, 64, 1]⟩
abbrev S128x64x64 : Shape := ⟨3, ![128, 64, 64]⟩
abbrev S64x128x64 : Shape := ⟨3, ![64, 128, 64]⟩
abbrev S128x64x128 : Shape := ⟨3, ![128, 64, 128]⟩
abbrev S128x64x16 : Shape := ⟨3, ![128, 64, 16]⟩
abbrev S128x16x64 : Shape := ⟨3, ![128, 16, 64]⟩
abbrev S128x16 : Shape := ⟨2, ![128, 16]⟩
abbrev S128x16x1 : Shape := ⟨3, ![128, 16, 1]⟩
abbrev S128x1x64 : Shape := ⟨3, ![128, 1, 64]⟩

abbrev nBuf : Space → Nat
  | .hbm => 270
  | .vmem => 0
  | .smem => 0
  | _ => 0

abbrev hbmTy0_0 (i : Nat) : BufTy := match i % 128 with
  | 0 => ⟨S128x512x8, .f32⟩
  | 1 => ⟨S128x512x1, .f32⟩
  | 2 => ⟨S8x64, .f32⟩
  | 3 => ⟨S64, .f32⟩
  | 4 => ⟨S2x2x64x64, .f32⟩
  | 5 => ⟨S2x2x64x64, .f32⟩
  | 6 => ⟨S2x2x64, .f32⟩
  | 7 => ⟨S2x2x128x64, .f32⟩
  | 8 => ⟨S2x2x64, .f32⟩
  | 9 => ⟨S64x64, .f32⟩
  | 10 => ⟨S16x64, .f32⟩
  | 11 => ⟨S64x64, .f32⟩
  | 12 => ⟨S64, .f32⟩
  | 13 => ⟨S128x512x64, .f32⟩
  | 14 => ⟨S1x1x64, .f32⟩
  | 15 => ⟨S128x512x64, .f32⟩
  | 16 => ⟨S128x512x64, .f32⟩
  | 17 => ⟨S128x512x64, .f32⟩
  | 18 => ⟨S1x2x64x64, .f32⟩
  | 19 => ⟨S2x64x64, .f32⟩
  | 20 => ⟨S1x2x64x64, .f32⟩
  | 21 => ⟨S2x64x64, .f32⟩
  | 22 => ⟨S1x2x64, .f32⟩
  | 23 => ⟨S2x64, .f32⟩
  | 24 => ⟨S1x2x128x64, .f32⟩
  | 25 => ⟨S2x128x64, .f32⟩
  | 26 => ⟨S1x2x64, .f32⟩
  | 27 => ⟨S2x64, .f32⟩
  | 28 => ⟨S1x64x64, .f32⟩
  | 29 => ⟨S64x64, .f32⟩
  | 30 => ⟨S64x128x512, .f32⟩
  | 31 => ⟨S128x512x512, .f32⟩
  | 32 => ⟨S_, .f32⟩
  | 33 => ⟨S128x512x512, .f32⟩
  | 34 => ⟨S128x512x512, .f32⟩
  | 35 => ⟨S128x1x512, .f32⟩
  | 36 => ⟨S_, .f32⟩
  | 37 => ⟨S128x1x512, .f32⟩
  | 38 => ⟨S128x1x512, .f32⟩
  | 39 => ⟨S_, .f32⟩
  | 40 => ⟨S128x1x512, .f32⟩
  | 41 => ⟨S128x1x512, .f32⟩
  | 42 => ⟨S128x512x512, .f32⟩
  | 43 => ⟨S128x512x512, .f32⟩
  | 44 => ⟨S_, .f32⟩
  | 45 => ⟨S128x512, .f32⟩
  | 46 => ⟨S_, .f32⟩
  | 47 => ⟨S128x512, .f32⟩
  | 48 => ⟨S128x512, .f32⟩
  | 49 => ⟨S128x512x1, .f32⟩
  | 50 => ⟨S128x512x512, .f32⟩
  | 51 => ⟨S128x512x512, .f32⟩
  | 52 => ⟨S128x512x512, .f32⟩
  | 53 => ⟨S_, .f32⟩
  | 54 => ⟨S128x512, .f32⟩
  | 55 => ⟨S128x512x1, .f32⟩
  | 56 => ⟨S128x512x512, .f32⟩
  | 57 => ⟨S128x512x512, .f32⟩
  | 58 => ⟨S1x64x64, .f32⟩
  | 59 => ⟨S64x64, .f32⟩
  | 60 => ⟨S128x512x64, .f32⟩
  | 61 => ⟨S1x64, .f32⟩
  | 62 => ⟨S64, .f32⟩
  | 63 => ⟨S1x1x64, .f32⟩
  | 64 => ⟨S128x512x64, .f32⟩
  | 65 => ⟨S128x512x64, .f32⟩
  | 66 => ⟨S128x512x64, .f32⟩
  | 67 => ⟨S128x512x128, .f32⟩
  | 68 => ⟨S1x128x64, .f32⟩
  | 69 => ⟨S128x64, .f32⟩
  | 70 => ⟨S128x512x64, .f32⟩
  | 71 => ⟨S1x64, .f32⟩
  | 72 => ⟨S64, .f32⟩
  | 73 => ⟨S1x1x64, .f32⟩
  | 74 => ⟨S128x512x64, .f32⟩
  | 75 => ⟨S128x512x64, .f32⟩
  | 76 => ⟨S128x512x64, .f32⟩
  | 77 => ⟨S128x512x64, .f32⟩
  | 78 => ⟨S128x512x64, .f32⟩
  | 79 => ⟨S1x64x64, .f32⟩
  | 80 => ⟨S64x64, .f32⟩
  | 81 => ⟨S64x128x512, .f32⟩
  | 82 => ⟨S128x512x512, .f32⟩
  | 83 => ⟨S_, .f32⟩
  | 84 => ⟨S128x512x512, .f32⟩
  | 85 => ⟨S128x512x512, .f32⟩
  | 86 => ⟨S128x1x512, .f32⟩
  | 87 => ⟨S_, .f32⟩
  | 88 => ⟨S128x1x512, .f32⟩
  | 89 => ⟨S128x1x512, .f32⟩
  | 90 => ⟨S_, .f32⟩
  | 91 => ⟨S128x1x512, .f32⟩
  | 92 => ⟨S128x1x512, .f32⟩
  | 93 => ⟨S128x512x512, .f32⟩
  | 94 => ⟨S128x512x512, .f32⟩
  | 95 => ⟨S_, .f32⟩
  | 96 => ⟨S128x512, .f32⟩
  | 97 => ⟨S_, .f32⟩
  | 98 => ⟨S128x512, .f32⟩
  | 99 => ⟨S128x512, .f32⟩
  | 100 => ⟨S128x512x1, .f32⟩
  | 101 => ⟨S128x512x512, .f32⟩
  | 102 => ⟨S128x512x512, .f32⟩
  | 103 => ⟨S128x512x512, .f32⟩
  | 104 => ⟨S_, .f32⟩
  | 105 => ⟨S128x512, .f32⟩
  | 106 => ⟨S128x512x1, .f32⟩
  | 107 => ⟨S128x512x512, .f32⟩
  | 108 => ⟨S128x512x512, .f32⟩
  | 109 => ⟨S1x64x64, .f32⟩
  | 110 => ⟨S64x64, .f32⟩
  | 111 => ⟨S128x512x64, .f32⟩
  | 112 => ⟨S1x64, .f32⟩
  | 113 => ⟨S64, .f32⟩
  | 114 => ⟨S1x1x64, .f32⟩
  | 115 => ⟨S128x512x64, .f32⟩
  | 116 => ⟨S128x512x64, .f32⟩
  | 117 => ⟨S128x512x64, .f32⟩
  | 118 => ⟨S128x512x128, .f32⟩
  | 119 => ⟨S1x128x64, .f32⟩
  | 120 => ⟨S128x64, .f32⟩
  | 121 => ⟨S128x512x64, .f32⟩
  | 122 => ⟨S1x64, .f32⟩
  | 123 => ⟨S64, .f32⟩
  | 124 => ⟨S1x1x64, .f32⟩
  | 125 => ⟨S128x512x64, .f32⟩
  | 126 => ⟨S128x512x64, .f32⟩
  | 127 => ⟨S128x512x64, .f32⟩
  | _ => ⟨S128x512x8, .f32⟩

abbrev hbmTy0_1 (i : Nat) : BufTy := match i % 128 with
  | 0 => ⟨S128x512x64, .f32⟩
  | 1 => ⟨S128x512x64, .f32⟩
  | 2 => ⟨S128x512x64, .f32⟩
  | 3 => ⟨S128x64x512, .f32⟩
  | 4 => ⟨S_, .f32⟩
  | 5 => ⟨S128x64x512, .f32⟩
  | 6 => ⟨S128x64x512, .f32⟩
  | 7 => ⟨S_, .f32⟩
  | 8 => ⟨S128x64, .f32⟩
  | 9 => ⟨S_, .f32⟩
  | 10 => ⟨S128x64, .f32⟩
  | 11 => ⟨S128x64, .f32⟩
  | 12 => ⟨S128x64x1, .f32⟩
  | 13 => ⟨S128x64x512, .f32⟩
  | 14 => ⟨S128x64x512, .f32⟩
  | 15 => ⟨S128x64x512, .f32⟩
  | 16 => ⟨S_, .f32⟩
  | 17 => ⟨S128x64, .f32⟩
  | 18 => ⟨S128x64x1, .f32⟩
  | 19 => ⟨S128x64x512, .f32⟩
  | 20 => ⟨S128x64x512, .f32⟩
  | 21 => ⟨S128x64x64, .f32⟩
  | 22 => ⟨S1x2x64x64, .f32⟩
  | 23 => ⟨S2x64x64, .f32⟩
  | 24 => ⟨S1x2x64x64, .f32⟩
  | 25 => ⟨S2x64x64, .f32⟩
  | 26 => ⟨S1x2x64, .f32⟩
  | 27 => ⟨S2x64, .f32⟩
  | 28 => ⟨S1x2x128x64, .f32⟩
  | 29 => ⟨S2x128x64, .f32⟩
  | 30 => ⟨S1x2x64, .f32⟩
  | 31 => ⟨S2x64, .f32⟩
  | 32 => ⟨S1x64x64, .f32⟩
  | 33 => ⟨S64x64, .f32⟩
  | 34 => ⟨S64x128x64, .f32⟩
  | 35 => ⟨S128x64x64, .f32⟩
  | 36 => ⟨S_, .f32⟩
  | 37 => ⟨S128x64x64, .f32⟩
  | 38 => ⟨S128x64x64, .f32⟩
  | 39 => ⟨S_, .f32⟩
  | 40 => ⟨S128x64, .f32⟩
  | 41 => ⟨S_, .f32⟩
  | 42 => ⟨S128x64, .f32⟩
  | 43 => ⟨S128x64, .f32⟩
  | 44 => ⟨S128x64x1, .f32⟩
  | 45 => ⟨S128x64x64, .f32⟩
  | 46 => ⟨S128x64x64, .f32⟩
  | 47 => ⟨S128x64x64, .f32⟩
  | 48 => ⟨S_, .f32⟩
  | 49 => ⟨S128x64, .f32⟩
  | 50 => ⟨S128x64x1, .f32⟩
  | 51 => ⟨S128x64x64, .f32⟩
  | 52 => ⟨S128x64x64, .f32⟩
  | 53 => ⟨S1x64x64, .f32⟩
  | 54 => ⟨S64x64, .f32⟩
  | 55 => ⟨S128x64x64, .f32⟩
  | 56 => ⟨S1x64, .f32⟩
  | 57 => ⟨S64, .f32⟩
  | 58 => ⟨S1x1x64, .f32⟩
  | 59 => ⟨S128x64x64, .f32⟩
  | 60 => ⟨S128x64x64, .f32⟩
  | 61 => ⟨S128x64x64, .f32⟩
  | 62 => ⟨S128x64x128, .f32⟩
  | 63 => ⟨S1x128x64, .f32⟩
  | 64 => ⟨S128x64, .f32⟩
  | 65 => ⟨S128x64x64, .f32⟩
  | 66 => ⟨S1x64, .f32⟩
  | 67 => ⟨S64, .f32⟩
  | 68 => ⟨S1x1x64, .f32⟩
  | 69 => ⟨S128x64x64, .f32⟩
  | 70 => ⟨S128x64x64, .f32⟩
  | 71 => ⟨S128x64x64, .f32⟩
  | 72 => ⟨S1x64x64, .f32⟩
  | 73 => ⟨S64x64, .f32⟩
  | 74 => ⟨S64x128x64, .f32⟩
  | 75 => ⟨S128x64x64, .f32⟩
  | 76 => ⟨S_, .f32⟩
  | 77 => ⟨S128x64x64, .f32⟩
  | 78 => ⟨S128x64x64, .f32⟩
  | 79 => ⟨S_, .f32⟩
  | 80 => ⟨S128x64, .f32⟩
  | 81 => ⟨S_, .f32⟩
  | 82 => ⟨S128x64, .f32⟩
  | 83 => ⟨S128x64, .f32⟩
  | 84 => ⟨S128x64x1, .f32⟩
  | 85 => ⟨S128x64x64, .f32⟩
  | 86 => ⟨S128x64x64, .f32⟩
  | 87 => ⟨S128x64x64, .f32⟩
  | 88 => ⟨S_, .f32⟩
  | 89 => ⟨S128x64, .f32⟩
  | 90 => ⟨S128x64x1, .f32⟩
  | 91 => ⟨S128x64x64, .f32⟩
  | 92 => ⟨S128x64x64, .f32⟩
  | 93 => ⟨S1x64x64, .f32⟩
  | 94 => ⟨S64x64, .f32⟩
  | 95 => ⟨S128x64x64, .f32⟩
  | 96 => ⟨S1x64, .f32⟩
  | 97 => ⟨S64, .f32⟩
  | 98 => ⟨S1x1x64, .f32⟩
  | 99 => ⟨S128x64x64, .f32⟩
  | 100 => ⟨S128x64x64, .f32⟩
  | 101 => ⟨S128x64x64, .f32⟩
  | 102 => ⟨S128x64x128, .f32⟩
  | 103 => ⟨S1x128x64, .f32⟩
  | 104 => ⟨S128x64, .f32⟩
  | 105 => ⟨S128x64x64, .f32⟩
  | 106 => ⟨S1x64, .f32⟩
  | 107 => ⟨S64, .f32⟩
  | 108 => ⟨S1x1x64, .f32⟩
  | 109 => ⟨S128x64x64, .f32⟩
  | 110 => ⟨S128x64x64, .f32⟩
  | 111 => ⟨S128x64x64, .f32⟩
  | 112 => ⟨S128x64x16, .f32⟩
  | 113 => ⟨S128x16x64, .f32⟩
  | 114 => ⟨S_, .f32⟩
  | 115 => ⟨S128x16x64, .f32⟩
  | 116 => ⟨S128x16x64, .f32⟩
  | 117 => ⟨S_, .f32⟩
  | 118 => ⟨S128x16, .f32⟩
  | 119 => ⟨S_, .f32⟩
  | 120 => ⟨S128x16, .f32⟩
  | 121 => ⟨S128x16, .f32⟩
  | 122 => ⟨S128x16x1, .f32⟩
  | 123 => ⟨S128x16x64, .f32⟩
  | 124 => ⟨S128x16x64, .f32⟩
  | 125 => ⟨S128x16x64, .f32⟩
  | 126 => ⟨S_, .f32⟩
  | 127 => ⟨S128x16, .f32⟩
  | _ => ⟨S128x512x8, .f32⟩

abbrev hbmTy0_2 (i : Nat) : BufTy := match i % 128 with
  | 0 => ⟨S128x16x1, .f32⟩
  | 1 => ⟨S128x16x64, .f32⟩
  | 2 => ⟨S128x16x64, .f32⟩
  | 3 => ⟨S128x16x64, .f32⟩
  | 4 => ⟨S_, .f32⟩
  | 5 => ⟨S128x64, .f32⟩
  | 6 => ⟨S_, .f32⟩
  | 7 => ⟨S128x64, .f32⟩
  | 8 => ⟨S128x64, .f32⟩
  | 9 => ⟨S128x64, .f32⟩
  | 10 => ⟨S1x64, .f32⟩
  | 11 => ⟨S128x64, .f32⟩
  | 12 => ⟨S128x64, .f32⟩
  | 13 => ⟨S128x1x64, .f32⟩
  | _ => ⟨S128x512x8, .f32⟩

abbrev hbmTy (i : Nat) : BufTy := match i / 128 with
  | 0 => hbmTy0_0 i
  | 1 => hbmTy0_1 i
  | 2 => hbmTy0_2 i
  | _ => ⟨S128x512x8, .f32⟩

abbrev bufTy : (tb : Table) → Fin (tcTables nBuf tb) → BufTy
  | .hbm, ⟨i, _⟩ => hbmTy i
  | _, _ => ⟨S128x512x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_4 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_5 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_6 : Ref sig .tc := ⟨.hbm, 87, rfl⟩
abbrev main_v67 : Ref sig .tc := ⟨.hbm, 88, rfl⟩
abbrev main_v68 : Ref sig .tc := ⟨.hbm, 89, rfl⟩
abbrev main_cst_7 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_8 : Ref sig .tc := ⟨.hbm, 95, rfl⟩
abbrev main_v73 : Ref sig .tc := ⟨.hbm, 96, rfl⟩
abbrev main_cst_9 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_10 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_11 : Ref sig .tc := ⟨.hbm, 132, rfl⟩
abbrev main_v107 : Ref sig .tc := ⟨.hbm, 133, rfl⟩
abbrev main_v108 : Ref sig .tc := ⟨.hbm, 134, rfl⟩
abbrev main_cst_12 : Ref sig .tc := ⟨.hbm, 135, rfl⟩
abbrev main_v109 : Ref sig .tc := ⟨.hbm, 136, rfl⟩
abbrev main_cst_13 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_14 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_cst_15 : Ref sig .tc := ⟨.hbm, 164, rfl⟩
abbrev main_v135 : Ref sig .tc := ⟨.hbm, 165, rfl⟩
abbrev main_v136 : Ref sig .tc := ⟨.hbm, 166, rfl⟩
abbrev main_cst_16 : Ref sig .tc := ⟨.hbm, 167, rfl⟩
abbrev main_v137 : Ref sig .tc := ⟨.hbm, 168, rfl⟩
abbrev main_cst_17 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_18 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_cst_19 : Ref sig .tc := ⟨.hbm, 204, rfl⟩
abbrev main_v171 : Ref sig .tc := ⟨.hbm, 205, rfl⟩
abbrev main_v172 : Ref sig .tc := ⟨.hbm, 206, rfl⟩
abbrev main_cst_20 : Ref sig .tc := ⟨.hbm, 207, rfl⟩
abbrev main_v173 : Ref sig .tc := ⟨.hbm, 208, rfl⟩
abbrev main_cst_21 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_cst_22 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_cst_23 : Ref sig .tc := ⟨.hbm, 242, rfl⟩
abbrev main_v205 : Ref sig .tc := ⟨.hbm, 243, rfl⟩
abbrev main_v206 : Ref sig .tc := ⟨.hbm, 244, rfl⟩
abbrev main_cst_24 : Ref sig .tc := ⟨.hbm, 245, rfl⟩
abbrev main_v207 : Ref sig .tc := ⟨.hbm, 246, rfl⟩
abbrev main_cst_25 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_cst_26 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_cst_27 : Ref sig .tc := ⟨.hbm, 260, rfl⟩
abbrev main_v219 : Ref sig .tc := ⟨.hbm, 261, rfl⟩
abbrev main_cst_28 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩

abbrev nD : Nat := 1
abbrev τ : Topo := Topo.v7x

variable {F : FTy → Type} [FloatOps F]
-- ==== Proof.Lane.lean ====
module

public import proofs.«01_k».proof.Proof.Gen.KernelIdeal.Frame

/-!
# One jet through the kernel

The kernel takes sixteen jets per grid point and writes every operation out sixteen times, once per
jet. Here the course of ONE jet is written once, stage by stage, and the stored block is shown to be
the last layer applied to the sixteen rows this course gives.
-/

@[expose] public section

set_option maxRecDepth 16384

noncomputable section

namespace Cert.Jets

open Idealize.ShloMosaic Idealize.SL.Sem
open Cert.KernelIdeal Cert.KernelIdeal.Gen

variable {F : FTy → Type} [FloatOps F] [Named F]

/-- The named constant the kernel scales its query factors by. -/
abbrev scaleC : F .f32 := Named.named κ "c" 0x3E38AA3B#32

/-- Embedding of one jet's particles: `tanh (x · W + b)`. -/
def embed (x : Vec F S1x512x8 .f32) (w : Vec F S8x64 .f32) (b : Vec F S1x64 .f32) : FVec F S512x64 .f32 :=
  tanh (addf
    (matmul dot_S512x8_S8x64_S512x64_1_0_0_1_n_n none
      (truncf .bf16 (shapeCast S512x8 x shapeCasts_S1x512x8_S512x8) bitsLt_bf16_f32)
      (truncf .bf16 w bitsLt_bf16_f32) (constant S512x64 .f32 0x00000000#32))
    (broadcastTo S512x64 (shapeCast S1x64 b shapeCasts_S1x64_S1x64) broadcasts_S1x64_S512x64))

/-- The three joined projections, the first (query) third scaled. -/
def scaled (w : Vec F S1x1x64x192 .f32) : FVec F S64x192 .f32 :=
  concatenate S64x192 1
    [⟨S64x64, mulf
        (extractStridedSlice S64x64 ![0, 0] (shapeCast S64x192 w shapeCasts_S1x1x64x192_S64x192) slices_S64x192_o0_0_S64x64)
        (broadcast S64x64 scaleC)⟩,
     ⟨S64x128, extractStridedSlice S64x128 ![0, 64] (shapeCast S64x192 w shapeCasts_S1x1x64x192_S64x192) slices_S64x192_o0_64_S64x128⟩]
    concatenates_S64x64_S64x128_S64x192_d1

/-- The bias of one step as a flat row. -/
def flat (b : Vec F S1x1x64 .f32) : FVec F S64 .f32 := shapeCast S64 b shapeCasts_S1x1x64_S64

/-- The joined projections of the 512 particles. -/
def proj512 (h : FVec F S512x64 .f32) (w : Vec F S1x1x64x192 .f32) : FVec F S512x192 .f32 :=
  matmul dot_S512x64_S64x192_S512x192_1_0_0_1_n_n none (truncf .bf16 h bitsLt_bf16_f32)
    (truncf .bf16 (scaled w) bitsLt_bf16_f32) (constant S512x192 .f32 0x00000000#32)

/-- Unnormalised weights of the 512 particles, powers of two of the scaled scores. -/
def pow512 (h : FVec F S512x64 .f32) (p : FVec F S512x192 .f32) : FVec F S512x512 .bf16 :=
  truncf .bf16 (exp2 (matmul dot_S512x64_S512x64_S512x512_1_1_0_0_n_n none
    (truncf .bf16 (extractStridedSlice S512x64 ![0, 0] p slices_S512x192_o0_0_S512x64) bitsLt_bf16_f32)
    (truncf .bf16 h bitsLt_bf16_f32) (constant S512x512 .f32 0x00000000#32))) bitsLt_bf16_f32

/-- Values of 512 particles with a column of ones behind them. -/
def ones512 (v : FVec F S512x64 .f32) : FVec F S512x65 .bf16 :=
  concatenate S512x65 1 [⟨S512x64, truncf .bf16 v bitsLt_bf16_f32⟩,
    ⟨S512x1, broadcast S512x1 (Scalar.ofBits .bf16 0x3F80#16)⟩] concatenates_S512x64_S512x1_S512x65_d1

/-- Weighted sums and, in the last column, sums of weights. -/
def sums512 (h : FVec F S512x64 .f32) (p : FVec F S512x192 .f32) : FVec F S512x65 .f32 :=
  matmul dot_S512x512_S512x65_S512x65_1_0_0_1_n_n none (pow512 h p)
    (ones512 (extractStridedSlice S512x64 ![0, 128] p slices_S512x192_o0_128_S512x64))
    (constant S512x65 .f32 0x00000000#32)

/-- Sums over their weights. -/
def quot512 (r : FVec F S512x65 .f32) : FVec F S512x64 .f32 :=
  divf (extractStridedSlice S512x64 ![0, 0] r slices_S512x65_o0_0_S512x64)
    (broadcastTo S512x64 (extractStridedSlice S512x1 ![0, 64] r slices_S512x65_o0_64_S512x1) broadcasts_S512x1_S512x64)

/-- One message-passing step on 512 particles. -/
def step512 (h : FVec F S512x64 .f32) (w : Vec F S1x1x64x192 .f32) (b : Vec F S1x1x64 .f32) : FVec F S512x64 .f32 :=
  tanh (addf
    (addf (extractStridedSlice S512x64 ![0, 64] (proj512 h w) slices_S512x192_o0_64_S512x64)
      (quot512 (sums512 h (proj512 h w))))
    (broadcastTo S512x64 (shapeCast S1x64 (flat b) shapeCasts_S64_S1x64) broadcasts_S1x64_S512x64))

/-- The first pooling: 64 queries over 512 particles. -/
def pool512 (h : FVec F S512x64 .f32) (q : Vec F S64x64 .f32) : FVec F S64x64 .f32 :=
  let r : FVec F S64x65 .f32 := matmul dot_S64x512_S512x65_S64x65_1_0_0_1_n_n none
    (truncf .bf16 (exp2 (matmul dot_S64x64_S512x64_S64x512_1_1_0_0_n_n none
      (truncf .bf16 (mulf q (broadcast S64x64 scaleC)) bitsLt_bf16_f32)
      (truncf .bf16 h bitsLt_bf16_f32) (constant S64x512 .f32 0x00000000#32))) bitsLt_bf16_f32)
    (ones512 h) (constant S64x65 .f32 0x00000000#32)
  divf (extractStridedSlice S64x64 ![0, 0] r slices_S64x65_o0_0_S64x64)
    (broadcastTo S64x64 (extractStridedSlice S64x1 ![0, 64] r slices_S64x65_o0_64_S64x1) broadcasts_S64x1_S64x64)

/-- The joined projections of the 64 pooled rows. -/
def proj64 (h : FVec F S64x64 .f32) (w : Vec F S1x1x64x192 .f32) : FVec F S64x192 .f32 :=
  matmul dot_S64x64_S64x192_S64x192_1_0_0_1_n_n none (truncf .bf16 h bitsLt_bf16_f32)
    (truncf .bf16 (scaled w) bitsLt_bf16_f32) (constant S64x192 .f32 0x00000000#32)

/-- Values of 64 rows with a column of ones behind them. -/
def ones64 (v : FVec F S64x64 .f32) : FVec F S64x65 .bf16 :=
  concatenate S64x65 1 [⟨S64x64, truncf .bf16 v bitsLt_bf16_f32⟩,
    ⟨S64x1, broadcast S64x1 (Scalar.ofBits .bf16 0x3F80#16)⟩] concatenates_S64x64_S64x1_S64x65_d1

/-- Weighted sums of the 64 rows and sums of weights. -/
def sums64 (h : FVec F S64x64 .f32) (p : FVec F S64x192 .f32) : FVec F S64x65 .f32 :=
  matmul dot_S64x64_S64x65_S64x65_1_0_0_1_n_n none
    (truncf .bf16 (exp2 (matmul dot_S64x64_S64x64_S64x64_1_1_0_0_n_n none
      (truncf .bf16 (extractStridedSlice S64x64 ![0, 0] p slices_S64x192_o0_0_S64x64) bitsLt_bf16_f32)
      (truncf .bf16 h bitsLt_bf16_f32) (constant S64x64 .f32 0x00000000#32))) bitsLt_bf16_f32)
    (ones64 (extractStridedSlice S64x64 ![0, 128] p slices_S64x192_o0_128_S64x64))
    (constant S64x65 .f32 0x00000000#32)

/-- One message-passing step on the 64 pooled rows. -/
def step64 (h : FVec F S64x64 .f32) (w : Vec F S1x1x64x192 .f32) (b : Vec F S1x1x64 .f32) : FVec F S64x64 .f32 :=
  tanh (addf
    (addf (extractStridedSlice S64x64 ![0, 64] (proj64 h w) slices_S64x192_o0_64_S64x64)
      (divf (extractStridedSlice S64x64 ![0, 0] (sums64 h (proj64 h w)) slices_S64x65_o0_0_S64x64)
        (broadcastTo S64x64 (extractStridedSlice S64x1 ![0, 64] (sums64 h (proj64 h w)) slices_S64x65_o0_64_S64x1)
          broadcasts_S64x1_S64x64)))
    (broadcastTo S64x64 (shapeCast S1x64 (flat b) shapeCasts_S64_S1x64) broadcasts_S1x64_S64x64))

/-- The second pooling: 16 queries over 64 rows. -/
def pool64 (h : FVec F S64x64 .f32) (q : Vec F S16x64 .f32) : FVec F S16x64 .f32 :=
  let r : FVec F S16x65 .f32 := matmul dot_S16x64_S64x65_S16x65_1_0_0_1_n_n none
    (truncf .bf16 (exp2 (matmul dot_S16x64_S64x64_S16x64_1_1_0_0_n_n none
      (truncf .bf16 (mulf q (broadcast S16x64 scaleC)) bitsLt_bf16_f32)
      (truncf .bf16 h bitsLt_bf16_f32) (constant S16x64 .f32 0x00000000#32))) bitsLt_bf16_f32)
    (ones64 h) (constant S16x65 .f32 0x00000000#32)
  divf (extractStridedSlice S16x64 ![0, 0] r slices_S16x65_o0_0_S16x64)
    (broadcastTo S16x64 (extractStridedSlice S16x1 ![0, 64] r slices_S16x65_o0_64_S16x1) broadcasts_S16x1_S16x64)

/-- The mean of the sixteen pooled rows. -/
def meanRow (h : FVec F S16x64 .f32) : FVec F S1x64 .f32 :=
  divf (shapeCast S1x64 (multiReduction .add [0] S64 h 0x00000000#32 reduces_S16x64_S64 (.inl rfl) rfl) shapeCasts_S64_S1x64)
    (broadcast S1x64 (Scalar.ofBits .f32 0x41800000#32))

end Cert.Jets
-- ==== Proof.Lanes.lean ====
module

public import proofs.«01_k».proof.Proof.Lane

/-!
# The stored block is sixteen lanes

The values of the unrolled program, sixteen at a time: the hidden states after the embedding, after
each of the two steps on particles, after the first pooling and after each of the two steps on pooled
rows. Each family is the previous one with one stage of `Lane.lean` applied, so the block the kernel
stores is the last layer applied to sixteen rows, row `j` made from jet `j` alone.
-/

@[expose] public section

set_option maxRecDepth 16384

noncomputable section

namespace Cert.Jets

open Idealize.ShloMosaic Idealize.SL.Sem
open Cert.KernelIdeal Cert.KernelIdeal.Gen

variable {F : FTy → Type} [FloatOps F] [Named F]
variable (x0 : Vec F S16x512x8 .f32) (x1 : Vec F S8x64 .f32) (x2 : Vec F S1x64 .f32)
  (x3 : Vec F S2x2x64x192 .f32) (x4 : Vec F S2x2x64 .f32) (x5 : Vec F S64x64 .f32)
  (x6 : Vec F S16x64 .f32) (x7 : Vec F S64x64 .f32) (x8 : Vec F S1x64 .f32)

/-- The sixteen jets of the block of particles. -/
def jetsOf : Fin 16 → Vec F S1x512x8 .f32 :=
  ![View.ld x0 r0_0, View.ld x0 r0_3, View.ld x0 r0_4, View.ld x0 r0_5, View.ld x0 r0_6, View.ld x0 r0_7, View.ld x0 r0_8, View.ld x0 r0_9, View.ld x0 r0_10, View.ld x0 r0_11, View.ld x0 r0_12, View.ld x0 r0_13, View.ld x0 r0_14, View.ld x0 r0_15, View.ld x0 r0_16, View.ld x0 r0_17]

/-- The unrolled program's embedded particles, jet by jet. -/
def embVals : Fin 16 → FVec F S512x64 .f32 :=
  ![k0_pay576 x0 x1 x2 x3 x4 x5 x6 x7 x8,
    k0_pay577 x0 x1 x2 x3 x4 x5 x6 x7 x8,
    k0_pay578 x0 x1 x2 x3 x4 x5 x6 x7 x8,
    k0_pay579 x0 x1 x2 x3 x4 x5 x6 x7 x8,
    k0_pay580 x0 x1 x2 x3 x4 x5 x6 x7 x8,
    k0_pay581 x0 x1 x2 x3 x4 x5 x6 x7 x8,
    k0_pay582 x0 x1 x2 x3 x4 x5 x6 x7 x8,
    k0_pay583 x0 x1 x2 x3 x4 x5 x6 x7 x8,
    k0_pay584 x0 x1 x2 x3 x4 x5 x6 x7 x8,
    k0_pay585 x0 x1 x2 x3 x4 x5 x6 x7 x8,
    k0_pay586 x0 x1 x2 x3 x4 x5 x6 x7 x8,
    k0_pay587 x0 x1 x2 x3 x4 x5 x6 x7 x8,
    k0_pay588 x0 x1 x2 x3 x4 x5 x6 x7 x8,
    k0_pay589 x0 x1 x2 x3 x4 x5 x6 x7 x8,
    k0_pay590 x0 x1 x2 x3 x4 x5 x6 x7 x8,
    k0_pay591 x0 x1 x2 x3 x4 x5 x6 x7 x8]

/-- The unrolled program's particles after the first step, jet by jet. -/
def fstVals : Fin 16 → FVec F S512x64 .f32 :=
  ![k0_pay612 x0 x1 x2 x3 x4 x5 x6 x7 x8,
    k0_pay613 x0 x1 x2 x3 x4 x5 x6 x7 x8,
    k0_pay614 x0 x1 x2 x3 x4 x5 x6 x7 x8,
    k0_pay615 x0 x1 x2 x3 x4 x5 x6 x7 x8,
    k0_pay616 x0 x1 x2 x3 x4 x5 x6 x7 x8,
    k0_pay617 x0 x1 x2 x3 x4 x5 x6 x7 x8,
    k0_pay618 x0 x1 x2 x3 x4 x5 x6 x7 x8,
    k0_pay619 x0 x1 x2 x3 x4 x5 x6 x7 x8,
    k0_pay620 x0 x1 x2 x3 x4 x5 x6 x7 x8,
    k0_pay621 x0 x1 x2 x3 x4 x5 x6 x7 x8,
    k0_pay622 x0 x1 x2 x3 x4 x5 x6 x7 x8,
    k0_pay623 x0 x1 x2 x3 x4 x5 x6 x7 x8,
    k0_pay624 x0 x1 x2 x3 x4 x5 x6 x7 x8,
    k0_pay625 x0 x1 x2 x3 x4 x5 x6 x7 x8,
    k0_pay626 x0 x1 x2 x3 x4 x5 x6 x7 x8,
    k0_pay627 x0 x1 x2 x3 x4 x5 x6 x7 x8]

/-- The unrolled program's particles after the second step, jet by jet. -/
def sndVals : Fin 16 → FVec F S512x64 .f32 :=
  ![k0_pay650 x0 x1 x2 x3 x4 x5 x6 x7 x8,
    k0_pay651 x0 x1 x2 x3 x4 x5 x6 x7 x8,
    k0_pay652 x0 x1 x2 x3 x4 x5 x6 x7 x8,
    k0_pay653 x0 x1 x2 x3 x4 x5 x6 x7 x8,
    k0_pay654 x0 x1 x2 x3 x4 x5 x6 x7 x8,
    k0_pay655 x0 x1 x2 x3 x4 x5 x6 x7 x8,
    k0_pay656 x0 x1 x2 x3 x4 x5 x6 x7 x8,
    k0_pay657 x0 x1 x2 x3 x4 x5 x6 x7 x8,
    k0_pay658 x0 x1 x2 x3 x4 x5 x6 x7 x8,
    k0_pay659 x0 x1 x2 x3 x4 x5 x6 x7 x8,
    k0_pay660 x0 x1 x2 x3 x4 x5 x6 x7 x8,
    k0_pay661 x0 x1 x2 x3 x4 x5 x6 x7 x8,
    k0_pay662 x0 x1 x2 x3 x4 x5 x6 x7 x8,
    k0_pay663 x0 x1 x2 x3 x4 x5 x6 x7 x8,
    k0_pay664 x0 x1 x2 x3 x4 x5 x6 x7 x8,
    k0_pay665 x0 x1 x2 x3 x4 x5 x6 x7 x8]

/-- The unrolled program's pooled rows, jet by jet. -/
def poolVals : Fin 16 → FVec F S64x64 .f32 :=
  ![k0_pay669 x0 x1 x2 x3 x4 x5 x6 x7 x8,
    k0_pay670 x0 x1 x2 x3 x4 x5 x6 x7 x8,
    k0_pay671 x0 x1 x2 x3 x4 x5 x6 x7 x8,
    k0_pay672 x0 x1 x2 x3 x4 x5 x6 x7 x8,
    k0_pay673 x0 x1 x2 x3 x4 x5 x6 x7 x8,
    k0_pay674 x0 x1 x2 x3 x4 x5 x6 x7 x8,
    k0_pay675 x0 x1 x2 x3 x4 x5 x6 x7 x8,
    k0_pay676 x0 x1 x2 x3 x4 x5 x6 x7 x8,
    k0_pay677 x0 x1 x2 x3 x4 x5 x6 x7 x8,
    k0_pay678 x0 x1 x2 x3 x4 x5 x6 x7 x8,
    k0_pay679 x0 x1 x2 x3 x4 x5 x6 x7 x8,
    k0_pay680 x0 x1 x2 x3 x4 x5 x6 x7 x8,
    k0_pay681 x0 x1 x2 x3 x4 x5 x6 x7 x8,
    k0_pay682 x0 x1 x2 x3 x4 x5 x6 x7 x8,
    k0_pay683 x0 x1 x2 x3 x4 x5 x6 x7 x8,
    k0_pay684 x0 x1 x2 x3 x4 x5 x6 x7 x8]

/-- The unrolled program's pooled rows after their first step, jet by jet. -/
def thdVals : Fin 16 → FVec F S64x64 .f32 :=
  ![k0_pay704 x0 x1 x2 x3 x4 x5 x6 x7 x8,
    k0_pay705 x0 x1 x2 x3 x4 x5 x6 x7 x8,
    k0_pay706 x0 x1 x2 x3 x4 x5 x6 x7 x8,
    k0_pay707 x0 x1 x2 x3 x4 x5 x6 x7 x8,
    k0_pay708 x0 x1 x2 x3 x4 x5 x6 x7 x8,
    k0_pay709 x0 x1 x2 x3 x4 x5 x6 x7 x8,
    k0_pay710 x0 x1 x2 x3 x4 x5 x6 x7 x8,
    k0_pay711 x0 x1 x2 x3 x4 x5 x6 x7 x8,
    k0_pay712 x0 x1 x2 x3 x4 x5 x6 x7 x8,
    k0_pay713 x0 x1 x2 x3 x4 x5 x6 x7 x8,
    k0_pay714 x0 x1 x2 x3 x4 x5 x6 x7 x8,
    k0_pay715 x0 x1 x2 x3 x4 x5 x6 x7 x8,
    k0_pay716 x0 x1 x2 x3 x4 x5 x6 x7 x8,
    k0_pay717 x0 x1 x2 x3 x4 x5 x6 x7 x8,
    k0_pay718 x0 x1 x2 x3 x4 x5 x6 x7 x8,
    k0_pay719 x0 x1 x2 x3 x4 x5 x6 x7 x8]

/-- The unrolled program's pooled rows after their second step, jet by jet. -/
def fthVals : Fin 16 → FVec F S64x64 .f32 :=
  ![k0_pay740 x0 x1 x2 x3 x4 x5 x6 x7 x8,
    k0_pay741 x0 x1 x2 x3 x4 x5 x6 x7 x8,
    k0_pay742 x0 x1 x2 x3 x4 x5 x6 x7 x8,
    k0_pay743 x0 x1 x2 x3 x4 x5 x6 x7 x8,
    k0_pay744 x0 x1 x2 x3 x4 x5 x6 x7 x8,
    k0_pay745 x0 x1 x2 x3 x4 x5 x6 x7 x8,
    k0_pay746 x0 x1 x2 x3 x4 x5 x6 x7 x8,
    k0_pay747 x0 x1 x2 x3 x4 x5 x6 x7 x8,
    k0_pay748 x0 x1 x2 x3 x4 x5 x6 x7 x8,
    k0_pay749 x0 x1 x2 x3 x4 x5 x6 x7 x8,
    k0_pay750 x0 x1 x2 x3 x4 x5 x6 x7 x8,
    k0_pay751 x0 x1 x2 x3 x4 x5 x6 x7 x8,
    k0_pay752 x0 x1 x2 x3 x4 x5 x6 x7 x8,
    k0_pay753 x0 x1 x2 x3 x4 x5 x6 x7 x8,
    k0_pay754 x0 x1 x2 x3 x4 x5 x6 x7 x8,
    k0_pay755 x0 x1 x2 x3 x4 x5 x6 x7 x8]

theorem embVals_eq (j : Fin 16) :
    embVals x0 x1 x2 x3 x4 x5 x6 x7 x8 j
      = embed (jetsOf x0 j) (View.ld x1 r0_1) (View.ld x2 r0_2) := by
  fin_cases j <;> rfl

theorem fstVals_eq (j : Fin 16) :
    fstVals x0 x1 x2 x3 x4 x5 x6 x7 x8 j
      = step512 (embVals x0 x1 x2 x3 x4 x5 x6 x7 x8 j) (View.ld x3 r0_18) (View.ld x4 r0_19) := by
  fin_cases j <;> rfl

theorem sndVals_eq (j : Fin 16) :
    sndVals x0 x1 x2 x3 x4 x5 x6 x7 x8 j
      = step512 (fstVals x0 x1 x2 x3 x4 x5 x6 x7 x8 j) (View.ld x3 r0_20) (View.ld x4 r0_21) := by
  fin_cases j <;> rfl

theorem poolVals_eq (j : Fin 16) :
    poolVals x0 x1 x2 x3 x4 x5 x6 x7 x8 j
      = pool512 (sndVals x0 x1 x2 x3 x4 x5 x6 x7 x8 j) (View.ld x5 r0_22) := by
  fin_cases j <;> rfl

theorem thdVals_eq (j : Fin 16) :
    thdVals x0 x1 x2 x3 x4 x5 x6 x7 x8 j
      = step64 (poolVals x0 x1 x2 x3 x4 x5 x6 x7 x8 j) (View.ld x3 r0_23) (View.ld x4 r0_24) := by
  fin_cases j <;> rfl

theorem fthVals_eq (j : Fin 16) :
    fthVals x0 x1 x2 x3 x4 x5 x6 x7 x8 j
      = step64 (thdVals x0 x1 x2 x3 x4 x5 x6 x7 x8 j) (View.ld x3 r0_25) (View.ld x4 r0_26) := by
  fin_cases j <;> rfl

/-- The whole course of one jet: the row of the mean it hands to the last layer. -/
def lane (x : Vec F S1x512x8 .f32) : FVec F S1x64 .f32 :=
  meanRow (pool64 (step64 (step64 (pool512 (step512 (step512
    (embed x (View.ld x1 r0_1) (View.ld x2 r0_2))
    (View.ld x3 r0_18) (View.ld x4 r0_19)) (View.ld x3 r0_20) (View.ld x4 r0_21))
    (View.ld x5 r0_22)) (View.ld x3 r0_23) (View.ld x4 r0_24)) (View.ld x3 r0_25) (View.ld x4 r0_26))
    (View.ld x6 r0_27))

theorem lane_eq (j : Fin 16) :
    meanRow (pool64 (fthVals x0 x1 x2 x3 x4 x5 x6 x7 x8 j) (View.ld x6 r0_27))
      = lane x1 x2 x3 x4 x5 x6 (jetsOf x0 j) := by
  rw [fthVals_eq, thdVals_eq, poolVals_eq, sndVals_eq, fstVals_eq, embVals_eq]; rfl

/-- Sixteen rows on top of one another. -/
def stack (r : Fin 16 → FVec F S1x64 .f32) : FVec F S16x64 .f32 :=
  concatenate S16x64 0 [⟨S1x64, r 0⟩, ⟨S1x64, r 1⟩, ⟨S1x64, r 2⟩, ⟨S1x64, r 3⟩, ⟨S1x64, r 4⟩,
    ⟨S1x64, r 5⟩, ⟨S1x64, r 6⟩, ⟨S1x64, r 7⟩, ⟨S1x64, r 8⟩, ⟨S1x64, r 9⟩, ⟨S1x64, r 10⟩,
    ⟨S1x64, r 11⟩, ⟨S1x64, r 12⟩, ⟨S1x64, r 13⟩, ⟨S1x64, r 14⟩, ⟨S1x64, r 15⟩]
    concatenates_S1x64_S1x64_S1x64_S1x64_S1x64_S1x64_S1x64_S1x64_S1x64_S1x64_S1x64_S1x64_S1x64_S1x64_S1x64_S1x64_S16x64_d0

/-- The last layer on the sixteen rows. -/
def readout (m : FVec F S16x64 .f32) (w : Vec F S64x64 .f32) (b : Vec F S1x64 .f32) : FVec F S16x1x64 .f32 :=
  shapeCast S16x1x64 (addf
    (matmul dot_S16x64_S64x64_S16x64_1_0_0_1_n_n none m w (constant S16x64 .f32 0x00000000#32))
    (broadcastTo S16x64 (shapeCast S1x64 b shapeCasts_S1x64_S1x64) broadcasts_S1x64_S16x64))
    shapeCasts_S16x64_S16x1x64

/-- The stored block: the last layer on the rows of the sixteen lanes. -/
theorem out_eq :
    out0_9 x0 x1 x2 x3 x4 x5 x6 x7 x8
      = View.canon [⟨r0_28, readout (stack fun j => lane x1 x2 x3 x4 x5 x6 (jetsOf x0 j))
          (View.ld x7 r0_22) (View.ld x8 r0_2)⟩] := by
  have h : (fun j => lane x1 x2 x3 x4 x5 x6 (jetsOf x0 j))
      = fun j => meanRow (pool64 (fthVals x0 x1 x2 x3 x4 x5 x6 x7 x8 j) (View.ld x6 r0_27)) :=
    funext fun j => (lane_eq x0 x1 x2 x3 x4 x5 x6 x7 x8 j).symm
  rw [h]; rfl

end Cert.Jets
-- ==== Proof.Scalars.lean ====
module

public import Idealize.ShloMosaic.PureOps.Ideal
public import Idealize.ShloMosaic.PureOps.Ideal.Laws
public import Idealize.ShloMosaic.Lib.IdealHost

/-!
# The mathematics, on numbers alone

Attention weights as a function of real scores, the two ways of computing them (exponentials over
their sum after subtracting any number from the scores; powers of two of rescaled scores, divided
after the weighted sum), and one message-passing step in the two groupings of its products.
-/

@[expose] public section

noncomputable section

namespace Cert.Jets

open Idealize.ShloMosaic

/-- A finite sum of real numbers, taken among the extended reals. -/
theorem coe_sum {ι : Type} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The attention weights of scores `s`. -/
def soft {n : ℕ} (s : Fin n → ℝ) (j : Fin n) : ℝ := Real.exp (s j) / ∑ k, Real.exp (s k)

theorem sum_exp_pos {n : ℕ} [NeZero n] (s : Fin n → ℝ) : 0 < ∑ k, Real.exp (s k) :=
  Finset.sum_pos (fun _ _ => Real.exp_pos _) ⟨0, Finset.mem_univ _⟩

/-- Attention weights are positive. -/
theorem soft_pos {n : ℕ} [NeZero n] (s : Fin n → ℝ) (j : Fin n) : 0 < soft s j :=
  div_pos (Real.exp_pos _) (sum_exp_pos s)

/-- Attention weights sum to one. -/
theorem sum_soft {n : ℕ} [NeZero n] (s : Fin n → ℝ) : ∑ j, soft s j = 1 := by
  unfold soft
  rw [← Finset.sum_div, div_self (sum_exp_pos s).ne']

/-- Subtracting one number from all scores leaves the weights. -/
theorem soft_sub {n : ℕ} (s : Fin n → ℝ) (M : ℝ) : soft (fun j => s j - M) = soft s := by
  funext j
  unfold soft
  simp only [Real.exp_sub]
  rw [← Finset.sum_div, div_div_div_cancel_right₀ (Real.exp_pos M).ne']

/-- Exponentials of scores less a number, over their sum: the attention weights. -/
theorem soft_of_exp {n : ℕ} [NeZero n] (s : Fin n → ℝ) (M : ℝ) (j : Fin n) :
    Ideal.div (Ideal.exp ((s j : EReal) - (M : EReal))) (∑ k, Ideal.exp ((s k : EReal) - (M : EReal)))
      = (soft s j : EReal) := by
  simp only [← EReal.coe_sub, Ideal.exp_coe, ← coe_sum]
  rw [Ideal.div_coe (sum_exp_pos fun k => s k - M).ne', ← EReal.coe_mul, ← soft_sub s M]
  congr 1
  unfold soft
  rw [mul_one_div]

/-- The scale the kernel's scores carry: an eighth, in units of powers of two. -/
def scale : ℝ := (1 / 8) * (Real.log 2)⁻¹

/-- Powers of two of scores in those units are exponentials of an eighth of the scores. -/
theorem two_pow_scale (x : ℝ) : Real.rpow 2 (x * scale) = Real.exp (x / 8) := by
  have h2 : (Real.log 2) ≠ 0 := (Real.log_pos one_lt_two).ne'
  change (2 : ℝ) ^ (x * scale) = _
  rw [Real.rpow_def_of_pos two_pos]
  congr 1
  unfold scale
  field_simp

/-- Weighted sum of powers of two, over their sum: the weighted mean under the attention weights. -/
theorem soft_of_exp2 {n : ℕ} [NeZero n] (x v : Fin n → ℝ) :
    Ideal.div (∑ m, Ideal.exp2 ((x m * scale : ℝ) : EReal) * (v m : EReal)) (∑ m, Ideal.exp2 ((x m * scale : ℝ) : EReal))
      = ((∑ m, soft (fun m => x m / 8) m * v m : ℝ) : EReal) := by
  simp only [Ideal.exp2_coe, two_pow_scale, ← EReal.coe_mul, ← coe_sum]
  rw [Ideal.div_coe (sum_exp_pos fun m => x m / 8).ne', ← EReal.coe_mul]
  congr 1
  rw [Finset.sum_mul]
  refine Finset.sum_congr rfl fun m _ => ?_
  unfold soft
  ring

/-- A fold of maxima from the bottom over real numbers, at least one, is a real number. -/
theorem real_fold {ι : Type} (S : Finset ι) (hS : S.Nonempty) (x : ι → EReal) (hx : ∀ i, ∃ r : ℝ, x i = r) :
    ∃ M : ℝ, S.fold max ⊥ x = M := by
  classical
  have key : S.fold max ⊥ x = S.sup' hS x := by
    rw [Finset.sup'_eq_sup, Finset.sup]
  obtain ⟨i, _, hi⟩ := Finset.exists_mem_eq_sup' hS x
  obtain ⟨r, hr⟩ := hx i
  exact ⟨r, by rw [key, hi, hr]⟩

/-- The hyperbolic tangent of any extended real is a real number. -/
theorem tanh_real (x : EReal) : Ideal.tanh x = ((Ideal.tanh x).toReal : EReal) := by
  induction x using EReal.rec with
  | bot => rw [Ideal.tanh_bot]; norm_num
  | top => rw [Ideal.tanh_top]; norm_num
  | coe r => rw [Ideal.tanh_coe, EReal.toReal_coe]

/-- The f32 pattern of eight. -/
theorem ofBits_eight : Ideal.ofBits .f32 0x41000000#32 = ((8 : ℝ) : EReal) := by
  simp [Ideal.ofBits, Ideal.ieee]; norm_cast; norm_num

/-- The f32 pattern of minus infinity. -/
theorem ofBits_bot : Ideal.ofBits .f32 0xFF800000#32 = ⊥ := by
  simp [Ideal.ofBits, Ideal.ieee]

/-- The f32 pattern of plus infinity. -/
theorem ofBits_top : Ideal.ofBits .f32 0x7F800000#32 = ⊤ := by
  simp [Ideal.ofBits, Ideal.ieee]

end Cert.Jets
-- ==== Proof.Layers.lean ====
module

public import proofs.«01_k».proof.Proof.Scalars

/-!
# The layers of the network, on real numbers

A message-passing step and a pooling as functions of real hidden states; the plain form of each
(normalise, then average the messages, then update) and the folded form (message and update matrix
multiplied beforehand, normalisation after the weighted sum) are both this function.
-/

@[expose] public section

noncomputable section

namespace Cert.Jets

open Idealize.ShloMosaic

/-- The weights of one message-passing step: the score matrix, the message matrix and bias, the two
    halves of the update matrix, and the update bias. The biases and the half of the update matrix
    that meets the hidden state itself may be infinite. -/
structure Weights where
  a : Fin 64 → Fin 64 → ℝ
  m : Fin 64 → Fin 64 → ℝ
  bm : Fin 64 → EReal
  uh : Fin 64 → Fin 64 → EReal
  um : Fin 64 → Fin 64 → ℝ
  bu : Fin 64 → EReal

variable {n p : ℕ}

/-- Score of row `j` for row `i`, before the division by eight. -/
def score (a : Fin 64 → Fin 64 → ℝ) (H : Fin n → Fin 64 → ℝ) (i j : Fin n) : ℝ :=
  ∑ k, (∑ l, a l k * H i l) * H j k

/-- The weight row `i` gives row `j`. -/
def att (a : Fin 64 → Fin 64 → ℝ) (H : Fin n → Fin 64 → ℝ) (i : Fin n) : Fin n → ℝ :=
  soft fun j => score a H i j / 8

/-- The averaged message of row `i`. -/
def message (W : Weights) (H : Fin n → Fin 64 → ℝ) (i : Fin n) (k : Fin 64) : EReal :=
  ∑ j, (att W.a H i j : EReal) * (∑ l, (H j l : EReal) * (W.m l k : EReal) + W.bm k)

/-- One message-passing step. -/
def next (W : Weights) (H : Fin n → Fin 64 → ℝ) (i : Fin n) (o : Fin 64) : ℝ :=
  (Ideal.tanh (∑ l, (H i l : EReal) * W.uh l o + ∑ k, message W H i k * (W.um k o : EReal) + W.bu o)).toReal

/-- Score of row `j` for query `i`, before the division by eight. -/
def query (q : Fin p → Fin 64 → ℝ) (H : Fin n → Fin 64 → ℝ) (i : Fin p) (j : Fin n) : ℝ := ∑ k, H j k * q i k

/-- Pooling: the weighted mean of the rows for each query. -/
def pooled (q : Fin p → Fin 64 → ℝ) (H : Fin n → Fin 64 → ℝ) (i : Fin p) (o : Fin 64) : ℝ :=
  ∑ j, soft (fun j => query q H i j / 8) j * H j o

/-- A positive weighting, summing to one, of numbers shifted by one extended real: the weighted mean
    shifted by it, also after a multiplication by a real. -/
theorem mean_shift [NeZero n] (a x : Fin n → ℝ) (ha : ∀ j, 0 < a j) (h1 : ∑ j, a j = 1) (b : EReal) (u : ℝ) :
    (∑ j, (a j : EReal) * ((x j : EReal) + b)) * (u : EReal)
      = (((∑ j, a j * x j) * u : ℝ) : EReal) + b * (u : EReal) := by
  have inf : ∀ c : EReal, (∀ j, (a j : EReal) * ((x j : EReal) + c) = c) → (∑ _j : Fin n, c) = c →
      ((c * (u : EReal)) = ((∑ j, a j * x j) * u : ℝ) + c * (u : EReal)) →
      (∑ j, (a j : EReal) * ((x j : EReal) + c)) * (u : EReal)
        = (((∑ j, a j * x j) * u : ℝ) : EReal) + c * (u : EReal) := fun c hc hs hu => by
    rw [Finset.sum_congr rfl fun j _ => hc j, hs, ← hu]
  have hn : ∀ c : EReal, c + c = c → (∑ _j : Fin n, c) = c := fun c hc => by
    obtain ⟨m, hm⟩ := Nat.exists_eq_succ_of_ne_zero (NeZero.ne n)
    rw [Finset.sum_const, Finset.card_univ, Fintype.card_fin, hm]
    clear hm
    induction m with
    | zero => exact one_nsmul c
    | succ m ih => rw [succ_nsmul, ih, hc]
  induction b using EReal.rec with
  | coe b =>
    simp only [← EReal.coe_mul, ← EReal.coe_add, ← coe_sum]
    congr 1
    simp only [mul_add, Finset.sum_add_distrib, ← Finset.sum_mul, h1]
    ring
  | top =>
    refine inf ⊤ (fun j => ?_) ?_ ?_
    · rw [EReal.coe_add_top, EReal.coe_mul_top_of_pos (ha j)]
    · exact hn _ (EReal.top_add_top)
    · rcases lt_trichotomy u 0 with h | h | h
      · rw [EReal.top_mul_coe_of_neg h, EReal.add_bot]
      · subst h; simp
      · rw [EReal.top_mul_coe_of_pos h, EReal.coe_add_top]
  | bot =>
    refine inf ⊥ (fun j => ?_) ?_ ?_
    · rw [EReal.add_bot, EReal.coe_mul_bot_of_pos (ha j)]
    · exact hn _ (EReal.add_bot _)
    · rcases lt_trichotomy u 0 with h | h | h
      · rw [EReal.bot_mul_coe_of_neg h, EReal.coe_add_top]
      · subst h; simp
      · rw [EReal.bot_mul_coe_of_pos h, EReal.add_bot]

/-- Averaging messages and then updating is averaging updated rows and adding the updated bias. -/
theorem fold_update [NeZero n] (W : Weights) (H : Fin n → Fin 64 → ℝ) (i : Fin n) (o : Fin 64) :
    ∑ k, message W H i k * (W.um k o : EReal)
      = ((∑ j, att W.a H i j * (∑ l, H j l * ∑ k, W.m l k * W.um k o) : ℝ) : EReal)
        + ∑ k, W.bm k * (W.um k o : EReal) := by
  have h1 : ∀ k, message W H i k * (W.um k o : EReal)
      = (((∑ j, att W.a H i j * (∑ l, H j l * W.m l k)) * W.um k o : ℝ) : EReal) + W.bm k * (W.um k o : EReal) :=
    fun k => by
      rw [← mean_shift (att W.a H i) (fun j => ∑ l, H j l * W.m l k) (fun j => soft_pos _ j) (sum_soft _)]
      simp only [message, coe_sum, EReal.coe_mul]
  rw [Finset.sum_congr rfl fun k _ => h1 k, Finset.sum_add_distrib, ← coe_sum]
  congr 2
  simp only [Finset.sum_mul]
  rw [Finset.sum_comm]
  refine Finset.sum_congr rfl fun j _ => ?_
  simp only [Finset.mul_sum, Finset.sum_mul]
  rw [Finset.sum_comm]
  refine Finset.sum_congr rfl fun l _ => Finset.sum_congr rfl fun k _ => ?_
  ring

/-- The plain form of a step. -/
theorem next_plain (W : Weights) (H : Fin n → Fin 64 → ℝ) (i : Fin n) (o : Fin 64) :
    Ideal.tanh ((∑ x, (H i x : EReal) * W.uh x o
        + ∑ x, (∑ j, (att W.a H i j : EReal) * (∑ l, (H j l : EReal) * (W.m l x : EReal) + W.bm x))
            * (W.um x o : EReal)) + W.bu o)
      = (next W H i o : EReal) := by
  rw [next, ← tanh_real]
  rfl

/-- The folded form of a step. -/
theorem next_folded [NeZero n] (W : Weights) (H : Fin n → Fin 64 → ℝ) (i : Fin n) (o : Fin 64) :
    Ideal.tanh ((∑ x, (H i x : EReal) * W.uh x o
        + Ideal.div
            (∑ j, Ideal.exp2 (∑ k, (∑ l, (H i l : EReal) * ((W.a l k : EReal) * (scale : EReal))) * (H j k : EReal))
              * ∑ l, (H j l : EReal) * ((∑ k, W.m l k * W.um k o : ℝ) : EReal))
            (∑ j, Ideal.exp2 (∑ k, (∑ l, (H i l : EReal) * ((W.a l k : EReal) * (scale : EReal))) * (H j k : EReal))))
        + (W.bu o + ∑ k, W.bm k * (W.um k o : EReal)))
      = (next W H i o : EReal) := by
  have hs : ∀ j, ∑ k, (∑ l, H i l * (W.a l k * scale)) * H j k = score W.a H i j * scale := fun j => by
    unfold score
    rw [Finset.sum_mul]
    refine Finset.sum_congr rfl fun k _ => ?_
    rw [Finset.sum_mul, Finset.sum_mul, Finset.sum_mul]
    refine Finset.sum_congr rfl fun l _ => ?_
    ring
  have hq : Ideal.div
            (∑ j, Ideal.exp2 (∑ k, (∑ l, (H i l : EReal) * ((W.a l k : EReal) * (scale : EReal))) * (H j k : EReal))
              * ∑ l, (H j l : EReal) * ((∑ k, W.m l k * W.um k o : ℝ) : EReal))
            (∑ j, Ideal.exp2 (∑ k, (∑ l, (H i l : EReal) * ((W.a l k : EReal) * (scale : EReal))) * (H j k : EReal)))
      = ((∑ j, att W.a H i j * (∑ l, H j l * ∑ k, W.m l k * W.um k o) : ℝ) : EReal) := by
    simp only [← EReal.coe_mul, ← coe_sum, hs]
    exact soft_of_exp2 _ _
  rw [next, ← tanh_real, hq, fold_update, add_comm (W.bu o), ← add_assoc, ← add_assoc]

/-- The plain form of a pooling. -/
theorem pooled_plain [NeZero n] (q : Fin p → Fin 64 → ℝ) (H : Fin n → Fin 64 → ℝ) (i : Fin p) (o : Fin 64) :
    ∑ j, (soft (fun j => query q H i j / 8) j : EReal) * (H j o : EReal) = (pooled q H i o : EReal) := by
  simp only [← EReal.coe_mul, ← coe_sum]
  rfl

/-- The form of a pooling that normalises last. -/
theorem pooled_folded [NeZero n] (q : Fin p → Fin 64 → ℝ) (H : Fin n → Fin 64 → ℝ) (i : Fin p) (o : Fin 64) :
    Ideal.div
        (∑ j, Ideal.exp2 (∑ k, ((q i k : EReal) * (scale : EReal)) * (H j k : EReal)) * (H j o : EReal))
        (∑ j, Ideal.exp2 (∑ k, ((q i k : EReal) * (scale : EReal)) * (H j k : EReal)))
      = (pooled q H i o : EReal) := by
  have hs : ∀ j, ∑ k, (q i k * scale) * H j k = query q H i j * scale := fun j => by
    unfold query
    rw [Finset.sum_mul]
    refine Finset.sum_congr rfl fun k _ => ?_
    ring
  simp only [← EReal.coe_mul, ← coe_sum, hs]
  rw [soft_of_exp2]
  rfl

end Cert.Jets
-- ==== Proof.LaneReads.lean ====
module

public import proofs.«01_k».proof.Proof.Lanes
public import proofs.«01_k».proof.Proof.Layers
public import Idealize.ShloMosaic.Lib.Pointwise
public import Idealize.ShloMosaic.PureOps.IdealRules

/-!
# The kernel's stages on real hidden states

Each stage of `Lane.lean`, read entry by entry when its hidden states are real numbers, is the
function of `Layers.lean`.
-/

@[expose] public section

set_option maxRecDepth 16384

noncomputable section

namespace Cert.Jets

open Idealize.ShloMosaic Idealize.SL.Sem
open Cert.KernelIdeal Cert.KernelIdeal.Gen

/-- The named constant is `(1/8) / ln 2`. -/
theorem scaleC_eq : scaleC (F := Ideal) = (scale : EReal) := by
  unfold scale
  exact IdealRules.named_const.ideal_named_scalar (φ := .f32) _ _ _ _ rfl

/-- A message-passing step on real hidden states. -/
theorem step512_real (W : Weights) (H : Fin 512 → Fin 64 → ℝ) (h : FVec Ideal S512x64 .f32)
    (w : Vec Ideal S1x1x64x192 .f32) (b : Vec Ideal S1x1x64 .f32) (hh : ∀ i l, h (ix2 i l) = (H i l : EReal))
    (ha : ∀ k l : Fin 64, w (ix4 0 0 k ⟨l.val, by omega⟩) = (W.a k l : EReal))
    (hu : ∀ k l : Fin 64, w (ix4 0 0 k ⟨64 + l.val, by omega⟩) = W.uh k l)
    (hv : ∀ k l : Fin 64, w (ix4 0 0 k ⟨128 + l.val, by omega⟩) = ((∑ m, W.m k m * W.um m l : ℝ) : EReal))
    (hb : ∀ o, b (ix3 0 0 o) = W.bu o + ∑ k, W.bm k * (W.um k o : EReal)) (i : Fin 512) (o : Fin 64) :
    step512 h w b (ix2 i o) = (next W (H) i o : EReal) := by
  have h1 : step512 h w b (ix2 i o)
      = Ideal.tanh ((∑ x, h (ix2 i x) * w (ix4 0 0 x ⟨64 + o.val, by omega⟩)
          + Ideal.div
            (∑ j, Ideal.exp2 (∑ k : Fin 64, (∑ l, h (ix2 i l) * (w (ix4 0 0 l ⟨k.val, by omega⟩) * scaleC (F := Ideal))) * h (ix2 j k))
              * ∑ l, h (ix2 j l) * w (ix4 0 0 l ⟨128 + o.val, by omega⟩))
            (∑ j, Ideal.exp2 (∑ k : Fin 64, (∑ l, h (ix2 i l) * (w (ix4 0 0 l ⟨k.val, by omega⟩) * scaleC (F := Ideal))) * h (ix2 j k))))
        + b (ix3 0 0 o)) := by
    have hn : ¬ 128 + o.val < 64 := by omega
    have hi : 64 + (128 + o.val - 64) = 128 + o.val := by omega
    pointwise [step512, proj512, flat, quot512, sums512, pow512, ones512, scaled]
    simp only [dif_neg hn, hi]
    rfl
  rw [h1, scaleC_eq]
  simp only [hh, ha, hu, hv, hb]
  exact next_folded W H i o

/-- A message-passing step on real hidden states. -/
theorem step64_real (W : Weights) (H : Fin 64 → Fin 64 → ℝ) (h : FVec Ideal S64x64 .f32)
    (w : Vec Ideal S1x1x64x192 .f32) (b : Vec Ideal S1x1x64 .f32) (hh : ∀ i l, h (ix2 i l) = (H i l : EReal))
    (ha : ∀ k l : Fin 64, w (ix4 0 0 k ⟨l.val, by omega⟩) = (W.a k l : EReal))
    (hu : ∀ k l : Fin 64, w (ix4 0 0 k ⟨64 + l.val, by omega⟩) = W.uh k l)
    (hv : ∀ k l : Fin 64, w (ix4 0 0 k ⟨128 + l.val, by omega⟩) = ((∑ m, W.m k m * W.um m l : ℝ) : EReal))
    (hb : ∀ o, b (ix3 0 0 o) = W.bu o + ∑ k, W.bm k * (W.um k o : EReal)) (i : Fin 64) (o : Fin 64) :
    step64 h w b (ix2 i o) = (next W (H) i o : EReal) := by
  have h1 : step64 h w b (ix2 i o)
      = Ideal.tanh ((∑ x, h (ix2 i x) * w (ix4 0 0 x ⟨64 + o.val, by omega⟩)
          + Ideal.div
            (∑ j, Ideal.exp2 (∑ k : Fin 64, (∑ l, h (ix2 i l) * (w (ix4 0 0 l ⟨k.val, by omega⟩) * scaleC (F := Ideal))) * h (ix2 j k))
              * ∑ l, h (ix2 j l) * w (ix4 0 0 l ⟨128 + o.val, by omega⟩))
            (∑ j, Ideal.exp2 (∑ k : Fin 64, (∑ l, h (ix2 i l) * (w (ix4 0 0 l ⟨k.val, by omega⟩) * scaleC (F := Ideal))) * h (ix2 j k))))
        + b (ix3 0 0 o)) := by
    have hn : ¬ 128 + o.val < 64 := by omega
    have hi : 64 + (128 + o.val - 64) = 128 + o.val := by omega
    pointwise [step64, proj64, flat, sums64, ones64, scaled]
    simp only [dif_neg hn, hi]
    rfl
  rw [h1, scaleC_eq]
  simp only [hh, ha, hu, hv, hb]
  exact next_folded W H i o

/-- A pooling of real hidden states. -/
theorem pool512_real (q : Fin 64 → Fin 64 → ℝ) (H : Fin 512 → Fin 64 → ℝ) (h : FVec Ideal S512x64 .f32)
    (w : Vec Ideal S64x64 .f32) (hh : ∀ i l, h (ix2 i l) = (H i l : EReal)) (hw : ∀ k l, w (ix2 k l) = (q k l : EReal))
    (i : Fin 64) (o : Fin 64) : pool512 h w (ix2 i o) = (pooled q H i o : EReal) := by
  have h1 : pool512 h w (ix2 i o)
      = Ideal.div (∑ j, Ideal.exp2 (∑ k, w (ix2 i k) * scaleC (F := Ideal) * h (ix2 j k)) * h (ix2 j o))
          (∑ j, Ideal.exp2 (∑ k, w (ix2 i k) * scaleC (F := Ideal) * h (ix2 j k))) := by
    pointwise [pool512, ones512]
    rfl
  rw [h1, scaleC_eq]
  simp only [hh, hw]
  exact pooled_folded q H i o

/-- A pooling of real hidden states. -/
theorem pool64_real (q : Fin 16 → Fin 64 → ℝ) (H : Fin 64 → Fin 64 → ℝ) (h : FVec Ideal S64x64 .f32)
    (w : Vec Ideal S16x64 .f32) (hh : ∀ i l, h (ix2 i l) = (H i l : EReal)) (hw : ∀ k l, w (ix2 k l) = (q k l : EReal))
    (i : Fin 16) (o : Fin 64) : pool64 h w (ix2 i o) = (pooled q H i o : EReal) := by
  have h1 : pool64 h w (ix2 i o)
      = Ideal.div (∑ j, Ideal.exp2 (∑ k, w (ix2 i k) * scaleC (F := Ideal) * h (ix2 j k)) * h (ix2 j o))
          (∑ j, Ideal.exp2 (∑ k, w (ix2 i k) * scaleC (F := Ideal) * h (ix2 j k))) := by
    pointwise [pool64, ones64]
    rfl
  rw [h1, scaleC_eq]
  simp only [hh, hw]
  exact pooled_folded q H i o

/-- The embedding is real. -/
theorem embed_real (x : Vec Ideal S1x512x8 .f32) (w : Vec Ideal S8x64 .f32) (b : Vec Ideal S1x64 .f32)
    (i : Fin 512) (o : Fin 64) :
    embed x w b (ix2 i o) = ((Ideal.tanh (∑ k, x (ix3 0 i k) * w (ix2 k o) + b (ix2 0 o))).toReal : EReal) := by
  rw [← tanh_real]
  pointwise [embed]

/-- The mean, read. -/
theorem meanRow_at (h : FVec Ideal S16x64 .f32) (o : Fin 64) :
    meanRow h (ix2 0 o) = Ideal.div (∑ j, h (ix2 j o)) (Ideal.ofBits .f32 1098907648#32) := by
  pointwise [meanRow]

/-- A stacked row, read. -/
theorem stack_at (r : Fin 16 → FVec Ideal S1x64 .f32) (j : Fin 16) (o : Fin 64) :
    stack r (ix2 j o) = r j (ix2 0 o) := by
  fin_cases j <;> pointwise [stack]

/-- The last layer, read. -/
theorem readout_at (m : FVec Ideal S16x64 .f32) (w : Vec Ideal S64x64 .f32) (b : Vec Ideal S1x64 .f32)
    (j : Fin 16) (o : Fin 64) :
    readout m w b (ix3 j 0 o) = ∑ k, m (ix2 j k) * w (ix2 k o) + b (ix2 0 o) := by
  pointwise [readout]

/-- Jet `j` of the block, read. -/
theorem jetsOf_at (x : Vec Ideal S16x512x8 .f32) (j : Fin 16) (i : Fin 512) (k : Fin 8) :
    jetsOf x j (ix3 0 i k) = x (ix3 j i k) := by
  fin_cases j <;> pointwise [jetsOf]

end Cert.Jets
-- ==== Proof.Plain.lean ====
module

public import proofs.«01_k».proof.Proof.Gen.ReferenceIdeal.Run

/-!
# The reference, stage by stage

The reference's operations gathered into the stages of the network: embedding, a message-passing step
on particles, pooling, a message-passing step on pooled rows, second pooling, last layer. The terms
the reference's run is stated at are these stages applied to one another.
-/

@[expose] public section

set_option maxRecDepth 16384

noncomputable section

namespace Cert.Jets.Plain

open Idealize.ShloMosaic Idealize.SL.Sem
open Cert.ReferenceIdeal Cert.ReferenceIdeal.Gen Cert.ReferenceIdeal.Value

variable {F : FTy → Type} [FloatOps F]

/-- Embedding of all particles. -/
def embed (x : FVec F S128x512x8 .f32) (w : FVec F S8x64 .f32) (b : FVec F S64 .f32) : FVec F S128x512x64 .f32 :=
  Host.tanh (addf (Host.dotGeneral dot_S128x512x8_S8x64_S128x512x64_2_0_01_1_n_n none x w)
    (broadcastInDim S128x512x64 ![0, 1, 2] bcast_S1x1x64_S128x512x64_0_1_2 (broadcastInDim S1x1x64 ![2] bcast_S64_S1x1x64_2 b)))

/-- Scores of the particles against one another, with the mask's penalty. -/
def scores512 (h : FVec F S128x512x64 .f32) (mask : FVec F S128x512x1 .f32) (a : FVec F S64x64 .f32) :
    FVec F S128x512x512 .f32 :=
  addf (Host.divf (Host.dotGeneral dot_S64x128x512_S128x512x64_S128x512x512_0_2_2_1_1_0 none
      (Host.dotGeneral dot_S64x64_S128x512x64_S64x128x512_0_2_1_01_n_n none a h) h)
      (broadcastInDim S128x512x512 ![] bcast_S_S128x512x512 (constant S_ .f32 0x41000000#32)))
    (broadcastInDim S128x512x512 ![0, 1, 2] bcast_S128x1x512_S128x512x512_0_1_2
      (mulf (subf (transpose S128x1x512 [0, 2, 1] mask transposes_S128x512x1_S128x1x512_0_2_1)
          (broadcastInDim S128x1x512 ![] bcast_S_S128x1x512 (constant S_ .f32 0x3F800000#32)))
        (broadcastInDim S128x1x512 ![] bcast_S_S128x1x512 (constant S_ .f32 0x4E6E6B28#32))))

/-- The greatest entry of each row of scores. -/
def top512 (s : FVec F S128x512x512 .f32) : FVec F S128x512 .f32 :=
  maximumf (broadcastInDim S128x512 ![] bcast_S_S128x512 (constant S_ .f32 0xFF800000#32))
    (Host.reduce FloatOps.maximumf s (constant S_ .f32 0xFF800000#32) reducesTo_S128x512x512_S128x512_d2 h_S_)

/-- Exponentials of scores less one number per row. -/
def above512 (s : FVec F S128x512x512 .f32) (t : FVec F S128x512 .f32) : FVec F S128x512x512 .f32 :=
  Host.exp (subf s (broadcastInDim S128x512x512 ![0, 1, 2] bcast_S128x512x1_S128x512x512_0_1_2
    (broadcastInDim S128x512x1 ![0, 1] bcast_S128x512_S128x512x1_0_1 t)))

/-- Exponentials of the scores above their greatest. -/
def exps512 (s : FVec F S128x512x512 .f32) : FVec F S128x512x512 .f32 := above512 s (top512 s)

/-- Exponentials over their sums. -/
def norm512 (e : FVec F S128x512x512 .f32) : FVec F S128x512x512 .f32 :=
  Host.divf e (broadcastInDim S128x512x512 ![0, 1, 2] bcast_S128x512x1_S128x512x512_0_1_2
    (broadcastInDim S128x512x1 ![0, 1] bcast_S128x512_S128x512x1_0_1
      (Host.reduceAdd e (constant S_ .f32 0x00000000#32) reducesTo_S128x512x512_S128x512_d2 h_S_)))

/-- One message-passing step on the particles, from the weights of the attention on. -/
def update512 (h : FVec F S128x512x64 .f32) (mask : FVec F S128x512x1 .f32) (p : FVec F S128x512x512 .f32)
    (wm : FVec F S64x64 .f32) (bm : FVec F S64 .f32) (wu : FVec F S128x64 .f32) (bu : FVec F S64 .f32) :
    FVec F S128x512x64 .f32 :=
  mulf (Host.tanh (addf (Host.dotGeneral dot_S128x512x128_S128x64_S128x512x64_2_0_01_1_n_n none
      (concatenate S128x512x128 2 [⟨S128x512x64, h⟩, ⟨S128x512x64,
        Host.dotGeneral dot_S128x512x512_S128x512x64_S128x512x64_2_1_1_2_0_0 none p
          (addf (Host.dotGeneral dot_S128x512x64_S64x64_S128x512x64_2_0_01_1_n_n none h wm)
            (broadcastInDim S128x512x64 ![0, 1, 2] bcast_S1x1x64_S128x512x64_0_1_2 (broadcastInDim S1x1x64 ![2] bcast_S64_S1x1x64_2 bm)))⟩]
        concatenates_S128x512x64_S128x512x64_S128x512x128_d2) wu)
      (broadcastInDim S128x512x64 ![0, 1, 2] bcast_S1x1x64_S128x512x64_0_1_2 (broadcastInDim S1x1x64 ![2] bcast_S64_S1x1x64_2 bu))))
    (broadcastInDim S128x512x64 ![0, 1, 2] bcast_S128x512x1_S128x512x64_0_1_2 mask)

/-- One message-passing step on the particles. -/
def step512 (h : FVec F S128x512x64 .f32) (mask : FVec F S128x512x1 .f32) (a wm : FVec F S64x64 .f32)
    (bm : FVec F S64 .f32) (wu : FVec F S128x64 .f32) (bu : FVec F S64 .f32) : FVec F S128x512x64 .f32 :=
  update512 h mask (norm512 (exps512 (scores512 h mask a))) wm bm wu bu

/-- Scores of the 64 queries against the particles. -/
def poolScores512 (h : FVec F S128x512x64 .f32) (q : FVec F S64x64 .f32) : FVec F S128x64x512 .f32 :=
  Host.divf (transpose S128x64x512 [0, 2, 1] (Host.dotGeneral dot_S128x512x64_S64x64_S128x512x64_2_1_01_0_n_n none h q)
      transposes_S128x512x64_S128x64x512_0_2_1)
    (broadcastInDim S128x64x512 ![] bcast_S_S128x64x512 (constant S_ .f32 0x41000000#32))

/-- The greatest entry of each row of scores. -/
def poolTop512 (s : FVec F S128x64x512 .f32) : FVec F S128x64 .f32 :=
  maximumf (broadcastInDim S128x64 ![] bcast_S_S128x64 (constant S_ .f32 0xFF800000#32))
    (Host.reduce FloatOps.maximumf s (constant S_ .f32 0xFF800000#32) reducesTo_S128x64x512_S128x64_d2 h_S_)

/-- Exponentials of scores less one number per row. -/
def poolAbove512 (s : FVec F S128x64x512 .f32) (t : FVec F S128x64 .f32) : FVec F S128x64x512 .f32 :=
  Host.exp (subf s (broadcastInDim S128x64x512 ![0, 1, 2] bcast_S128x64x1_S128x64x512_0_1_2
    (broadcastInDim S128x64x1 ![0, 1] bcast_S128x64_S128x64x1_0_1 t)))

/-- Exponentials of the first pooling's scores above their greatest. -/
def poolExps512 (s : FVec F S128x64x512 .f32) : FVec F S128x64x512 .f32 := poolAbove512 s (poolTop512 s)

/-- The first pooling's exponentials over their sums. -/
def poolNorm512 (e : FVec F S128x64x512 .f32) : FVec F S128x64x512 .f32 :=
  Host.divf e (broadcastInDim S128x64x512 ![0, 1, 2] bcast_S128x64x1_S128x64x512_0_1_2
    (broadcastInDim S128x64x1 ![0, 1] bcast_S128x64_S128x64x1_0_1
      (Host.reduceAdd e (constant S_ .f32 0x00000000#32) reducesTo_S128x64x512_S128x64_d2 h_S_)))

/-- Weighted sums of rows, the weights given. -/
def poolMix512 (p : FVec F S128x64x512 .f32) (h : FVec F S128x512x64 .f32) : FVec F S128x64x64 .f32 :=
  Host.dotGeneral dot_S128x64x512_S128x512x64_S128x64x64_2_1_1_2_0_0 none p h

/-- The first pooling. -/
def pool512 (h : FVec F S128x512x64 .f32) (q : FVec F S64x64 .f32) : FVec F S128x64x64 .f32 :=
  poolMix512 (poolNorm512 (poolExps512 (poolScores512 h q))) h

/-- Scores of the pooled rows against one another. -/
def scores64 (h : FVec F S128x64x64 .f32) (a : FVec F S64x64 .f32) : FVec F S128x64x64 .f32 :=
  Host.divf (Host.dotGeneral dot_S64x128x64_S128x64x64_S128x64x64_0_2_2_1_1_0 none
      (Host.dotGeneral dot_S64x64_S128x64x64_S64x128x64_0_2_1_01_n_n none a h) h)
    (broadcastInDim S128x64x64 ![] bcast_S_S128x64x64 (constant S_ .f32 0x41000000#32))

/-- The greatest entry of each row of scores. -/
def top64 (s : FVec F S128x64x64 .f32) : FVec F S128x64 .f32 :=
  maximumf (broadcastInDim S128x64 ![] bcast_S_S128x64 (constant S_ .f32 0xFF800000#32))
    (Host.reduce FloatOps.maximumf s (constant S_ .f32 0xFF800000#32) reducesTo_S128x64x64_S128x64_d2 h_S_)

/-- Exponentials of scores less one number per row. -/
def above64 (s : FVec F S128x64x64 .f32) (t : FVec F S128x64 .f32) : FVec F S128x64x64 .f32 :=
  Host.exp (subf s (broadcastInDim S128x64x64 ![0, 1, 2] bcast_S128x64x1_S128x64x64_0_1_2
    (broadcastInDim S128x64x1 ![0, 1] bcast_S128x64_S128x64x1_0_1 t)))

/-- Exponentials of the pooled rows' scores above their greatest. -/
def exps64 (s : FVec F S128x64x64 .f32) : FVec F S128x64x64 .f32 := above64 s (top64 s)

/-- Exponentials of the pooled rows' scores over their sums. -/
def norm64 (e : FVec F S128x64x64 .f32) : FVec F S128x64x64 .f32 :=
  Host.divf e (broadcastInDim S128x64x64 ![0, 1, 2] bcast_S128x64x1_S128x64x64_0_1_2
    (broadcastInDim S128x64x1 ![0, 1] bcast_S128x64_S128x64x1_0_1
      (Host.reduceAdd e (constant S_ .f32 0x00000000#32) reducesTo_S128x64x64_S128x64_d2 h_S_)))

/-- One message-passing step on the pooled rows, from the weights of the attention on. -/
def update64 (h p : FVec F S128x64x64 .f32) (wm : FVec F S64x64 .f32)
    (bm : FVec F S64 .f32) (wu : FVec F S128x64 .f32) (bu : FVec F S64 .f32) : FVec F S128x64x64 .f32 :=
  Host.tanh (addf (Host.dotGeneral dot_S128x64x128_S128x64_S128x64x64_2_0_01_1_n_n none
      (concatenate S128x64x128 2 [⟨S128x64x64, h⟩, ⟨S128x64x64,
        Host.dotGeneral dot_S128x64x64_S128x64x64_S128x64x64_2_1_1_2_0_0 none p
          (addf (Host.dotGeneral dot_S128x64x64_S64x64_S128x64x64_2_0_01_1_n_n none h wm)
            (broadcastInDim S128x64x64 ![0, 1, 2] bcast_S1x1x64_S128x64x64_0_1_2 (broadcastInDim S1x1x64 ![2] bcast_S64_S1x1x64_2 bm)))⟩]
        concatenates_S128x64x64_S128x64x64_S128x64x128_d2) wu)
      (broadcastInDim S128x64x64 ![0, 1, 2] bcast_S1x1x64_S128x64x64_0_1_2 (broadcastInDim S1x1x64 ![2] bcast_S64_S1x1x64_2 bu)))

/-- One message-passing step on the pooled rows. -/
def step64 (h : FVec F S128x64x64 .f32) (a wm : FVec F S64x64 .f32)
    (bm : FVec F S64 .f32) (wu : FVec F S128x64 .f32) (bu : FVec F S64 .f32) : FVec F S128x64x64 .f32 :=
  update64 h (norm64 (exps64 (scores64 h a))) wm bm wu bu

/-- Scores of the 16 queries against the pooled rows. -/
def poolScores64 (h : FVec F S128x64x64 .f32) (q : FVec F S16x64 .f32) : FVec F S128x16x64 .f32 :=
  Host.divf (transpose S128x16x64 [0, 2, 1] (Host.dotGeneral dot_S128x64x64_S16x64_S128x64x16_2_1_01_0_n_n none h q)
      transposes_S128x64x16_S128x16x64_0_2_1)
    (broadcastInDim S128x16x64 ![] bcast_S_S128x16x64 (constant S_ .f32 0x41000000#32))

/-- The greatest entry of each row of scores. -/
def poolTop64 (s : FVec F S128x16x64 .f32) : FVec F S128x16 .f32 :=
  maximumf (broadcastInDim S128x16 ![] bcast_S_S128x16 (constant S_ .f32 0xFF800000#32))
    (Host.reduce FloatOps.maximumf s (constant S_ .f32 0xFF800000#32) reducesTo_S128x16x64_S128x16_d2 h_S_)

/-- Exponentials of scores less one number per row. -/
def poolAbove64 (s : FVec F S128x16x64 .f32) (t : FVec F S128x16 .f32) : FVec F S128x16x64 .f32 :=
  Host.exp (subf s (broadcastInDim S128x16x64 ![0, 1, 2] bcast_S128x16x1_S128x16x64_0_1_2
    (broadcastInDim S128x16x1 ![0, 1] bcast_S128x16_S128x16x1_0_1 t)))

/-- Exponentials of the second pooling's scores above their greatest. -/
def poolExps64 (s : FVec F S128x16x64 .f32) : FVec F S128x16x64 .f32 := poolAbove64 s (poolTop64 s)

/-- The second pooling's exponentials over their sums. -/
def poolNorm64 (e : FVec F S128x16x64 .f32) : FVec F S128x16x64 .f32 :=
  Host.divf e (broadcastInDim S128x16x64 ![0, 1, 2] bcast_S128x16x1_S128x16x64_0_1_2
    (broadcastInDim S128x16x1 ![0, 1] bcast_S128x16_S128x16x1_0_1
      (Host.reduceAdd e (constant S_ .f32 0x00000000#32) reducesTo_S128x16x64_S128x16_d2 h_S_)))

/-- Weighted sums of rows, the weights given. -/
def poolMix64 (p : FVec F S128x16x64 .f32) (h : FVec F S128x64x64 .f32) : FVec F S128x16x64 .f32 :=
  Host.dotGeneral dot_S128x16x64_S128x64x64_S128x16x64_2_1_1_2_0_0 none p h

/-- The second pooling. -/
def pool64 (h : FVec F S128x64x64 .f32) (q : FVec F S16x64 .f32) : FVec F S128x16x64 .f32 :=
  poolMix64 (poolNorm64 (poolExps64 (poolScores64 h q))) h

/-- Mean of the sixteen rows and the last layer. -/
def readout (h : FVec F S128x16x64 .f32) (w : FVec F S64x64 .f32) (b : FVec F S64 .f32) : FVec F S128x1x64 .f32 :=
  shapeCast _ (addf (Host.dotGeneral dot_S128x64_S64x64_S128x64_1_0_0_1_n_n none
      (Host.divf (Host.reduceAdd h (constant S_ .f32 0x00000000#32) reducesTo_S128x16x64_S128x64_d1 h_S_)
        (broadcastInDim S128x64 ![] bcast_S_S128x64 (constant S_ .f32 0x41800000#32))) w)
    (broadcastInDim S128x64 ![0, 1] bcast_S1x64_S128x64_0_1 (broadcastInDim S1x64 ![1] bcast_S64_S1x64_1 b)))
    shapeCasts_S128x64_S128x1x64

theorem slices4 (s : Fin 2) : S2x2x64x64.Slices ![s.val, 0, 0, 0] S1x2x64x64 := by decide +revert
theorem slices3 (t : Fin 2) : S2x64x64.Slices ![t.val, 0, 0] S1x64x64 := by decide +revert
theorem slicesU4 (s : Fin 2) : S2x2x128x64.Slices ![s.val, 0, 0, 0] S1x2x128x64 := by decide +revert
theorem slicesU3 (t : Fin 2) : S2x128x64.Slices ![t.val, 0, 0] S1x128x64 := by decide +revert
theorem slicesB3 (s : Fin 2) : S2x2x64.Slices ![s.val, 0, 0] S1x2x64 := by decide +revert
theorem slicesB2 (t : Fin 2) : S2x64.Slices ![t.val, 0] S1x64 := by decide +revert

/-- The 64 × 64 matrix of stage `s`, step `t`. -/
def sqAt (s t : Fin 2) (x : FVec F S2x2x64x64 .f32) : FVec F S64x64 .f32 :=
  shapeCast _ (extractStridedSlice S1x64x64 ![t.val, 0, 0]
    (shapeCast S2x64x64 (extractStridedSlice S1x2x64x64 ![s.val, 0, 0, 0] x (slices4 s)) shapeCasts_S1x2x64x64_S2x64x64)
    (slices3 t)) shapeCasts_S1x64x64_S64x64

/-- The 128 × 64 matrix of stage `s`, step `t`. -/
def tallAt (s t : Fin 2) (x : FVec F S2x2x128x64 .f32) : FVec F S128x64 .f32 :=
  shapeCast _ (extractStridedSlice S1x128x64 ![t.val, 0, 0]
    (shapeCast S2x128x64 (extractStridedSlice S1x2x128x64 ![s.val, 0, 0, 0] x (slicesU4 s)) shapeCasts_S1x2x128x64_S2x128x64)
    (slicesU3 t)) shapeCasts_S1x128x64_S128x64

/-- The bias of stage `s`, step `t`. -/
def biasAt (s t : Fin 2) (x : FVec F S2x2x64 .f32) : FVec F S64 .f32 :=
  shapeCast _ (extractStridedSlice S1x64 ![t.val, 0]
    (shapeCast S2x64 (extractStridedSlice S1x2x64 ![s.val, 0, 0] x (slicesB3 s)) shapeCasts_S1x2x64_S2x64)
    (slicesB2 t)) shapeCasts_S1x64_S64

/-! ## The run's terms are these stages -/

variable (V0 : Valuation τ sig (Elt F))

theorem v4_eq : res_main_v4 V0
    = embed (V0 (Proc.devRef .tc main_arg0)) (V0 (Proc.devRef .tc main_arg2)) (V0 (Proc.devRef .tc main_arg3)) := rfl

theorem v59_eq : res_main_v59 V0
    = step512 (res_main_v4 V0) (V0 (Proc.devRef .tc main_arg1)) (sqAt 0 0 (V0 (Proc.devRef .tc main_arg4)))
        (sqAt 0 0 (V0 (Proc.devRef .tc main_arg5))) (biasAt 0 0 (V0 (Proc.devRef .tc main_arg6)))
        (tallAt 0 0 (V0 (Proc.devRef .tc main_arg7))) (biasAt 0 0 (V0 (Proc.devRef .tc main_arg8))) := rfl

theorem v104_eq : res_main_v104 V0
    = step512 (res_main_v59 V0) (V0 (Proc.devRef .tc main_arg1)) (sqAt 0 1 (V0 (Proc.devRef .tc main_arg4)))
        (sqAt 0 1 (V0 (Proc.devRef .tc main_arg5))) (biasAt 0 1 (V0 (Proc.devRef .tc main_arg6)))
        (tallAt 0 1 (V0 (Proc.devRef .tc main_arg7))) (biasAt 0 1 (V0 (Proc.devRef .tc main_arg8))) := rfl

theorem v120_eq : res_main_v120 V0 = pool512 (res_main_v104 V0) (V0 (Proc.devRef .tc main_arg9)) := rfl

theorem v166_eq : res_main_v166 V0
    = step64 (res_main_v120 V0) (sqAt 1 0 (V0 (Proc.devRef .tc main_arg4)))
        (sqAt 1 0 (V0 (Proc.devRef .tc main_arg5))) (biasAt 1 0 (V0 (Proc.devRef .tc main_arg6)))
        (tallAt 1 0 (V0 (Proc.devRef .tc main_arg7))) (biasAt 1 0 (V0 (Proc.devRef .tc main_arg8))) := rfl

theorem v202_eq : res_main_v202 V0
    = step64 (res_main_v166 V0) (sqAt 1 1 (V0 (Proc.devRef .tc main_arg4)))
        (sqAt 1 1 (V0 (Proc.devRef .tc main_arg5))) (biasAt 1 1 (V0 (Proc.devRef .tc main_arg6)))
        (tallAt 1 1 (V0 (Proc.devRef .tc main_arg7))) (biasAt 1 1 (V0 (Proc.devRef .tc main_arg8))) := rfl

end Cert.Jets.Plain
-- ==== Proof.PlainReads.lean ====
module

public import proofs.«01_k».proof.Proof.Plain
public import proofs.«01_k».proof.Proof.Layers
public import Idealize.ShloMosaic.Lib.Pointwise
public import Idealize.ShloMosaic.PureOps.Reduce

/-!
# The reference's stages on real hidden states

Each stage of `Plain.lean`, read entry by entry when its hidden states are real numbers, is the
function of `Layers.lean`. Of a row's greatest score only this is used: it is a real number.
-/

@[expose] public section

set_option maxRecDepth 16384

noncomputable section

namespace Cert.Jets.Plain

open Idealize.ShloMosaic Idealize.SL.Sem
open Cert.ReferenceIdeal Cert.ReferenceIdeal.Gen Cert.ReferenceIdeal.Value

theorem sub_self_one : (1 : EReal) - 1 = 0 := by
  rw [← EReal.coe_one, ← EReal.coe_sub, sub_self, EReal.coe_zero]

/-- A real number over the f32 pattern of eight. -/
theorem over_eight (x : ℝ) : Ideal.div (x : EReal) (Ideal.ofBits .f32 1090519040#32) = ((x / 8 : ℝ) : EReal) := by
  rw [show Ideal.ofBits .f32 1090519040#32 = ((8 : ℝ) : EReal) from ofBits_eight, Ideal.div_coe (by norm_num),
    ← EReal.coe_mul, one_div, div_eq_mul_inv]

/-- The greatest number of each row of real numbers is real. -/
theorem row_max_real {s t u : Shape} {a : Fin s.rank} (x : FVec Ideal s .f32) (hx : ∀ y, ∃ r : ℝ, x y = (r : EReal))
    (init : FVec Ideal u .f32) (h' : s.ReducesTo [a] t) (h : s.Reduces [a] t) (hu : 0 < u.numel)
    (h0 : init (Shape.Idx.first hu) = (⊥ : EReal)) (hp : 0 < s.size a) (j : t.Idx) :
    ∃ M : ℝ, Host.reduce (FloatOps.maximumf (F := Ideal) (φ := .f32)) x init h' hu j = (M : EReal) := by
  rw [Host.reduce_eq_fold_single _ x init h' h hu j, h0]
  exact real_fold _ ⟨⟨0, hp⟩, Finset.mem_univ _⟩ _ fun k => hx _

/-- The greatest of minus infinity and each row's numbers is real. -/
theorem top_real {s t u : Shape} {a : Fin s.rank} (x : FVec Ideal s .f32) (hx : ∀ y, ∃ r : ℝ, x y = (r : EReal))
    (b : FVec Ideal t .f32) (init : FVec Ideal u .f32) (h' : s.ReducesTo [a] t) (h : s.Reduces [a] t) (hu : 0 < u.numel)
    (h0 : init (Shape.Idx.first hu) = (⊥ : EReal)) (hp : 0 < s.size a) (j : t.Idx) (hb : b j = (⊥ : EReal)) :
    ∃ M : ℝ, maximumf b (Host.reduce (FloatOps.maximumf (F := Ideal) (φ := .f32)) x init h' hu) j = (M : EReal) := by
  obtain ⟨M, hM⟩ := row_max_real x hx init h' h hu h0 hp j
  refine ⟨M, ?_⟩
  change max (b j) _ = _
  rw [hb, hM]
  exact bot_sup_eq _

/-- The f32 pattern of minus infinity, spread over any shape. -/
theorem minus (u : Shape) (j : u.Idx) : constant (F := Ideal) u .f32 0xFF800000#32 j = (⊥ : EReal) := ofBits_bot

/-- The same, spread from a single number. -/
theorem spread (t : Shape) (h : S_.BroadcastsInDim t ![]) (j : t.Idx) :
   broadcastInDim t ![] h (constant (F := Ideal) S_ .f32 0xFF800000#32) j = (⊥ : EReal) := ofBits_bot

theorem red512 : S128x512x512.Reduces [2] S128x512 := by decide

theorem size512 : 0 < S128x512x512.size 2 := by decide

/-- The greatest score of a row of real scores is real. -/
theorem top512_real (x : FVec Ideal S128x512x512 .f32) (hx : ∀ y, ∃ r : ℝ, x y = (r : EReal)) (j : S128x512.Idx) :
    ∃ M : ℝ, top512 x j = (M : EReal) := by
  unfold top512
  exact top_real x hx _ _ reducesTo_S128x512x512_S128x512_d2 red512 h_S_ (minus _ _) size512 j (spread _ _ _)

/-- The attention weights of real scores. -/
theorem soft512 (s : FVec Ideal S128x512x512 .f32) (x : Fin 128 → Fin 512 → Fin 512 → ℝ)
    (hs : ∀ n i j, s (ix3 n i j) = (x n i j : EReal)) (n : Fin 128) (i : Fin 512) (j : Fin 512) :
    norm512 (exps512 s) (ix3 n i j) = (soft (x n i) j : EReal) := by
  obtain ⟨M, hM⟩ := top512_real s (fun y => by idx_vars y; exact ⟨_, hs _ _ _⟩) (ix2 n i)
  have h1 : norm512 (exps512 s) (ix3 n i j)
      = Ideal.div (exps512 s (ix3 n i j)) (∑ k, exps512 s (ix3 n i k)) := by
    generalize exps512 s = e
    pointwise [norm512]
  have h2 : ∀ k, exps512 s (ix3 n i k) = Ideal.exp ((x n i k : EReal) - (M : EReal)) := fun k => by
    rw [← hs, ← hM, exps512]
    generalize top512 s = t
    pointwise [above512]
  rw [h1, h2, Finset.sum_congr rfl fun k _ => h2 k, soft_of_exp]

theorem redPool512 : S128x64x512.Reduces [2] S128x64 := by decide

theorem sizePool512 : 0 < S128x64x512.size 2 := by decide

/-- The greatest score of a row of real scores is real. -/
theorem poolTop512_real (x : FVec Ideal S128x64x512 .f32) (hx : ∀ y, ∃ r : ℝ, x y = (r : EReal)) (j : S128x64.Idx) :
    ∃ M : ℝ, poolTop512 x j = (M : EReal) := by
  unfold poolTop512
  exact top_real x hx _ _ reducesTo_S128x64x512_S128x64_d2 redPool512 h_S_ (minus _ _) sizePool512 j (spread _ _ _)

/-- The attention weights of real scores. -/
theorem poolSoft512 (s : FVec Ideal S128x64x512 .f32) (x : Fin 128 → Fin 64 → Fin 512 → ℝ)
    (hs : ∀ n i j, s (ix3 n i j) = (x n i j : EReal)) (n : Fin 128) (i : Fin 64) (j : Fin 512) :
    poolNorm512 (poolExps512 s) (ix3 n i j) = (soft (x n i) j : EReal) := by
  obtain ⟨M, hM⟩ := poolTop512_real s (fun y => by idx_vars y; exact ⟨_, hs _ _ _⟩) (ix2 n i)
  have h1 : poolNorm512 (poolExps512 s) (ix3 n i j)
      = Ideal.div (poolExps512 s (ix3 n i j)) (∑ k, poolExps512 s (ix3 n i k)) := by
    generalize poolExps512 s = e
    pointwise [poolNorm512]
  have h2 : ∀ k, poolExps512 s (ix3 n i k) = Ideal.exp ((x n i k : EReal) - (M : EReal)) := fun k => by
    rw [← hs, ← hM, poolExps512]
    generalize poolTop512 s = t
    pointwise [poolAbove512]
  rw [h1, h2, Finset.sum_congr rfl fun k _ => h2 k, soft_of_exp]

theorem red64 : S128x64x64.Reduces [2] S128x64 := by decide

theorem size64 : 0 < S128x64x64.size 2 := by decide

/-- The greatest score of a row of real scores is real. -/
theorem top64_real (x : FVec Ideal S128x64x64 .f32) (hx : ∀ y, ∃ r : ℝ, x y = (r : EReal)) (j : S128x64.Idx) :
    ∃ M : ℝ, top64 x j = (M : EReal) := by
  unfold top64
  exact top_real x hx _ _ reducesTo_S128x64x64_S128x64_d2 red64 h_S_ (minus _ _) size64 j (spread _ _ _)

/-- The attention weights of real scores. -/
theorem soft64 (s : FVec Ideal S128x64x64 .f32) (x : Fin 128 → Fin 64 → Fin 64 → ℝ)
    (hs : ∀ n i j, s (ix3 n i j) = (x n i j : EReal)) (n : Fin 128) (i : Fin 64) (j : Fin 64) :
    norm64 (exps64 s) (ix3 n i j) = (soft (x n i) j : EReal) := by
  obtain ⟨M, hM⟩ := top64_real s (fun y => by idx_vars y; exact ⟨_, hs _ _ _⟩) (ix2 n i)
  have h1 : norm64 (exps64 s) (ix3 n i j)
      = Ideal.div (exps64 s (ix3 n i j)) (∑ k, exps64 s (ix3 n i k)) := by
    generalize exps64 s = e
    pointwise [norm64]
  have h2 : ∀ k, exps64 s (ix3 n i k) = Ideal.exp ((x n i k : EReal) - (M : EReal)) := fun k => by
    rw [← hs, ← hM, exps64]
    generalize top64 s = t
    pointwise [above64]
  rw [h1, h2, Finset.sum_congr rfl fun k _ => h2 k, soft_of_exp]

theorem redPool64 : S128x16x64.Reduces [2] S128x16 := by decide

theorem sizePool64 : 0 < S128x16x64.size 2 := by decide

/-- The greatest score of a row of real scores is real. -/
theorem poolTop64_real (x : FVec Ideal S128x16x64 .f32) (hx : ∀ y, ∃ r : ℝ, x y = (r : EReal)) (j : S128x16.Idx) :
    ∃ M : ℝ, poolTop64 x j = (M : EReal) := by
  unfold poolTop64
  exact top_real x hx _ _ reducesTo_S128x16x64_S128x16_d2 redPool64 h_S_ (minus _ _) sizePool64 j (spread _ _ _)

/-- The attention weights of real scores. -/
theorem poolSoft64 (s : FVec Ideal S128x16x64 .f32) (x : Fin 128 → Fin 16 → Fin 64 → ℝ)
    (hs : ∀ n i j, s (ix3 n i j) = (x n i j : EReal)) (n : Fin 128) (i : Fin 16) (j : Fin 64) :
    poolNorm64 (poolExps64 s) (ix3 n i j) = (soft (x n i) j : EReal) := by
  obtain ⟨M, hM⟩ := poolTop64_real s (fun y => by idx_vars y; exact ⟨_, hs _ _ _⟩) (ix2 n i)
  have h1 : poolNorm64 (poolExps64 s) (ix3 n i j)
      = Ideal.div (poolExps64 s (ix3 n i j)) (∑ k, poolExps64 s (ix3 n i k)) := by
    generalize poolExps64 s = e
    pointwise [poolNorm64]
  have h2 : ∀ k, poolExps64 s (ix3 n i k) = Ideal.exp ((x n i k : EReal) - (M : EReal)) := fun k => by
    rw [← hs, ← hM, poolExps64]
    generalize poolTop64 s = t
    pointwise [poolAbove64]
  rw [h1, h2, Finset.sum_congr rfl fun k _ => h2 k, soft_of_exp]

/-- The scores of real hidden states. -/
theorem scores512_real (A : Fin 64 → Fin 64 → ℝ) (H : Fin 128 → Fin 512 → Fin 64 → ℝ) (h : FVec Ideal S128x512x64 .f32) (mask : FVec Ideal S128x512x1 .f32)
    (a : FVec Ideal S64x64 .f32) (hh : ∀ n i l, h (ix3 n i l) = (H n i l : EReal))
    (hm : ∀ n i, mask (ix3 n i 0) = 1)
    (ha : ∀ k l, a (ix2 k l) = (A k l : EReal)) (n : Fin 128) (i j : Fin 512) :
    scores512 h mask a (ix3 n i j) = ((score A (H n) i j / 8 : ℝ) : EReal) := by
  have h1 : scores512 h mask a (ix3 n i j)
      = Ideal.div (∑ x, (∑ y, a (ix2 y x) * h (ix3 n i y)) * h (ix3 n j x)) (Ideal.ofBits .f32 1090519040#32) + (mask (ix3 n j 0) - 1) * Ideal.ofBits .f32 1315859240#32 := by
    pointwise [scores512]
  rw [h1]
  rw [hm, show (1 : EReal) - 1 = 0 from sub_self_one, zero_mul, add_zero]
  simp only [hh, ha, ← EReal.coe_mul, ← coe_sum]
  exact over_eight _

/-- A message-passing step on real hidden states. -/
theorem step512_real (W : Weights) (H : Fin 128 → Fin 512 → Fin 64 → ℝ) (h : FVec Ideal S128x512x64 .f32) (mask : FVec Ideal S128x512x1 .f32)
    (a wm : FVec Ideal S64x64 .f32) (bm : FVec Ideal S64 .f32) (wu : FVec Ideal S128x64 .f32) (bu : FVec Ideal S64 .f32)
    (hh : ∀ n i l, h (ix3 n i l) = (H n i l : EReal))
    (hm : ∀ n i, mask (ix3 n i 0) = 1)
    (ha : ∀ k l, a (ix2 k l) = (W.a k l : EReal)) (hwm : ∀ k l, wm (ix2 k l) = (W.m k l : EReal))
    (hbm : ∀ k, bm (ix1 k) = W.bm k) (huh : ∀ k l : Fin 64, wu (ix2 ⟨k.val, by omega⟩ l) = W.uh k l)
    (hum : ∀ k l : Fin 64, wu (ix2 ⟨64 + k.val, by omega⟩ l) = (W.um k l : EReal)) (hbu : ∀ k, bu (ix1 k) = W.bu k)
    (n : Fin 128) (i : Fin 512) (o : Fin 64) :
    step512 h mask a wm bm wu bu (ix3 n i o) = (next W (H n) i o : EReal) := by
  have h1 : ∀ p, update512 h mask p wm bm wu bu (ix3 n i o)
      = Ideal.tanh ((∑ x : Fin 64, h (ix3 n i x) * wu (ix2 ⟨x.val, by omega⟩ o)
          + ∑ x : Fin 64, (∑ y, p (ix3 n i y) * (∑ z, h (ix3 n y z) * wm (ix2 z x) + bm (ix1 x)))
              * wu (ix2 ⟨64 + x.val, by omega⟩ o)) + bu (ix1 o)) * mask (ix3 n i 0) := fun p => by
    pointwise [update512]
  have h2 : ∀ j, norm512 (exps512 (scores512 h mask a)) (ix3 n i j) = (att W.a (H n) i j : EReal) := fun j =>
    soft512 _ (fun n i j => score W.a (H n) i j / 8) (scores512_real W.a H h mask a hh hm ha) n i j
  rw [step512, h1, ← next_plain]
  simp only [hm, mul_one, h2, hh, hwm, hbm, huh, hum, hbu]

/-- The scores of real hidden states. -/
theorem scores64_real (A : Fin 64 → Fin 64 → ℝ) (H : Fin 128 → Fin 64 → Fin 64 → ℝ) (h : FVec Ideal S128x64x64 .f32)
    (a : FVec Ideal S64x64 .f32) (hh : ∀ n i l, h (ix3 n i l) = (H n i l : EReal))
    (ha : ∀ k l, a (ix2 k l) = (A k l : EReal)) (n : Fin 128) (i j : Fin 64) :
    scores64 h a (ix3 n i j) = ((score A (H n) i j / 8 : ℝ) : EReal) := by
  have h1 : scores64 h a (ix3 n i j)
      = Ideal.div (∑ x, (∑ y, a (ix2 y x) * h (ix3 n i y)) * h (ix3 n j x)) (Ideal.ofBits .f32 1090519040#32) := by
    pointwise [scores64]
  rw [h1]
  simp only [hh, ha, ← EReal.coe_mul, ← coe_sum]
  exact over_eight _

/-- A message-passing step on real hidden states. -/
theorem step64_real (W : Weights) (H : Fin 128 → Fin 64 → Fin 64 → ℝ) (h : FVec Ideal S128x64x64 .f32)
    (a wm : FVec Ideal S64x64 .f32) (bm : FVec Ideal S64 .f32) (wu : FVec Ideal S128x64 .f32) (bu : FVec Ideal S64 .f32)
    (hh : ∀ n i l, h (ix3 n i l) = (H n i l : EReal))
    (ha : ∀ k l, a (ix2 k l) = (W.a k l : EReal)) (hwm : ∀ k l, wm (ix2 k l) = (W.m k l : EReal))
    (hbm : ∀ k, bm (ix1 k) = W.bm k) (huh : ∀ k l : Fin 64, wu (ix2 ⟨k.val, by omega⟩ l) = W.uh k l)
    (hum : ∀ k l : Fin 64, wu (ix2 ⟨64 + k.val, by omega⟩ l) = (W.um k l : EReal)) (hbu : ∀ k, bu (ix1 k) = W.bu k)
    (n : Fin 128) (i : Fin 64) (o : Fin 64) :
    step64 h a wm bm wu bu (ix3 n i o) = (next W (H n) i o : EReal) := by
  have h1 : ∀ p, update64 h p wm bm wu bu (ix3 n i o)
      = Ideal.tanh ((∑ x : Fin 64, h (ix3 n i x) * wu (ix2 ⟨x.val, by omega⟩ o)
          + ∑ x : Fin 64, (∑ y, p (ix3 n i y) * (∑ z, h (ix3 n y z) * wm (ix2 z x) + bm (ix1 x)))
              * wu (ix2 ⟨64 + x.val, by omega⟩ o)) + bu (ix1 o)) := fun p => by
    pointwise [update64]
  have h2 : ∀ j, norm64 (exps64 (scores64 h a)) (ix3 n i j) = (att W.a (H n) i j : EReal) := fun j =>
    soft64 _ (fun n i j => score W.a (H n) i j / 8) (scores64_real W.a H h a hh ha) n i j
  rw [step64, h1, ← next_plain]
  simp only [h2, hh, hwm, hbm, huh, hum, hbu]

/-- A pooling of real hidden states. -/
theorem pool512_real (q : Fin 64 → Fin 64 → ℝ) (H : Fin 128 → Fin 512 → Fin 64 → ℝ) (h : FVec Ideal S128x512x64 .f32)
    (w : FVec Ideal S64x64 .f32) (hh : ∀ n i l, h (ix3 n i l) = (H n i l : EReal))
    (hw : ∀ k l, w (ix2 k l) = (q k l : EReal)) (n : Fin 128) (i : Fin 64) (o : Fin 64) :
    pool512 h w (ix3 n i o) = (pooled q (H n) i o : EReal) := by
  have h1 : ∀ n i j, poolScores512 h w (ix3 n i j) = ((query q (H n) i j / 8 : ℝ) : EReal) := fun n i j => by
    have h0 : poolScores512 h w (ix3 n i j)
        = Ideal.div (∑ x, h (ix3 n j x) * w (ix2 i x)) (Ideal.ofBits .f32 1090519040#32) := by
      pointwise [poolScores512]
    rw [h0]
    simp only [hh, hw, ← EReal.coe_mul, ← coe_sum]
    exact over_eight _
  have h2 : ∀ p, poolMix512 p h (ix3 n i o) = ∑ j, p (ix3 n i j) * h (ix3 n j o) := fun p => by
    pointwise [poolMix512]
  rw [pool512, h2, ← pooled_plain]
  refine Finset.sum_congr rfl fun j _ => ?_
  rw [hh, poolSoft512 _ (fun n i j => query q (H n) i j / 8) h1]

/-- A pooling of real hidden states. -/
theorem pool64_real (q : Fin 16 → Fin 64 → ℝ) (H : Fin 128 → Fin 64 → Fin 64 → ℝ) (h : FVec Ideal S128x64x64 .f32)
    (w : FVec Ideal S16x64 .f32) (hh : ∀ n i l, h (ix3 n i l) = (H n i l : EReal))
    (hw : ∀ k l, w (ix2 k l) = (q k l : EReal)) (n : Fin 128) (i : Fin 16) (o : Fin 64) :
    pool64 h w (ix3 n i o) = (pooled q (H n) i o : EReal) := by
  have h1 : ∀ n i j, poolScores64 h w (ix3 n i j) = ((query q (H n) i j / 8 : ℝ) : EReal) := fun n i j => by
    have h0 : poolScores64 h w (ix3 n i j)
        = Ideal.div (∑ x, h (ix3 n j x) * w (ix2 i x)) (Ideal.ofBits .f32 1090519040#32) := by
      pointwise [poolScores64]
    rw [h0]
    simp only [hh, hw, ← EReal.coe_mul, ← coe_sum]
    exact over_eight _
  have h2 : ∀ p, poolMix64 p h (ix3 n i o) = ∑ j, p (ix3 n i j) * h (ix3 n j o) := fun p => by
    pointwise [poolMix64]
  rw [pool64, h2, ← pooled_plain]
  refine Finset.sum_congr rfl fun j _ => ?_
  rw [hh, poolSoft64 _ (fun n i j => query q (H n) i j / 8) h1]

/-- The embedding is real. -/
theorem embed_real (x : FVec Ideal S128x512x8 .f32) (w : FVec Ideal S8x64 .f32) (b : FVec Ideal S64 .f32)
    (n : Fin 128) (i : Fin 512) (o : Fin 64) :
    embed x w b (ix3 n i o) = ((Ideal.tanh (∑ k, x (ix3 n i k) * w (ix2 k o) + b (ix1 o))).toReal : EReal) := by
  rw [← tanh_real]
  pointwise [embed]

/-- The last layer, read. -/
theorem readout_at (h : FVec Ideal S128x16x64 .f32) (w : FVec Ideal S64x64 .f32) (b : FVec Ideal S64 .f32)
    (n : Fin 128) (o : Fin 64) :
    readout h w b (ix3 n 0 o)
      = ∑ k, Ideal.div (∑ j, h (ix3 n j k)) (Ideal.ofBits .f32 1098907648#32) * w (ix2 k o) + b (ix1 o) := by
  pointwise [readout]

/-- The matrix of stage `s`, step `t`, read. -/
theorem sqAt_at (s t : Fin 2) (x : FVec Ideal S2x2x64x64 .f32) (i j : Fin 64) : sqAt s t x (ix2 i j) = x (ix4 s t i j) := by
  pointwise [sqAt]

/-- The tall matrix of stage `s`, step `t`, read. -/
theorem tallAt_at (s t : Fin 2) (x : FVec Ideal S2x2x128x64 .f32) (i : Fin 128) (j : Fin 64) :
    tallAt s t x (ix2 i j) = x (ix4 s t i j) := by
  pointwise [tallAt]

/-- The bias of stage `s`, step `t`, read. -/
theorem biasAt_at (s t : Fin 2) (x : FVec Ideal S2x2x64 .f32) (i : Fin 64) : biasAt s t x (ix1 i) = x (ix3 s t i) := by
  pointwise [biasAt]

end Cert.Jets.Plain
-- ==== Proof.Net.lean ====
module

public import proofs.«01_k».proof.Proof.LaneReads
public import proofs.«01_k».proof.Proof.PlainReads

/-!
# The network of one jet, and that both programs compute it

The whole network as a function of real hidden states, and the two programs' results as this
function: the reference for all jets together, the kernel's lane for one.
-/

@[expose] public section

set_option maxRecDepth 16384

noncomputable section

namespace Cert.Jets

open Idealize.ShloMosaic Idealize.SL.Sem

/-- Two steps on the particles, pooling, two steps on the pooled rows, pooling. -/
def net (W : Fin 2 → Fin 2 → Weights) (q0 : Fin 64 → Fin 64 → ℝ) (q1 : Fin 16 → Fin 64 → ℝ) (E : Fin 512 → Fin 64 → ℝ) :
    Fin 16 → Fin 64 → ℝ :=
  pooled q1 (next (W 1 1) (next (W 1 0) (pooled q0 (next (W 0 1) (next (W 0 0) E)))))

/-- The embedded particles of one jet. -/
def embedded (x : Fin 512 → Fin 8 → EReal) (w : Fin 8 → Fin 64 → EReal) (b : Fin 64 → EReal) (i : Fin 512) (o : Fin 64) : ℝ :=
  (Ideal.tanh (∑ k, x i k * w k o + b o)).toReal

/-- The mean over the last sixteen rows. -/
def meanOf (P : Fin 16 → Fin 64 → ℝ) (o : Fin 64) : EReal :=
  Ideal.div (∑ j, (P j o : EReal)) (Ideal.ofBits .f32 1098907648#32)

/-- The weights of stage `s`, step `t`, out of the arrays that hold those of all. -/
def weightsOf (a wm : FVec Ideal ⟨4, ![2, 2, 64, 64]⟩ .f32) (bm : FVec Ideal ⟨3, ![2, 2, 64]⟩ .f32)
    (wu : FVec Ideal ⟨4, ![2, 2, 128, 64]⟩ .f32) (bu : FVec Ideal ⟨3, ![2, 2, 64]⟩ .f32) (s t : Fin 2) : Weights where
  a k l := EReal.toReal (a (ix4 s t k l))
  m k l := EReal.toReal (wm (ix4 s t k l))
  bm k := bm (ix3 s t k)
  uh k l := wu (ix4 s t ⟨k.val, by omega⟩ l)
  um k l := EReal.toReal (wu (ix4 s t ⟨64 + k.val, by omega⟩ l))
  bu k := bu (ix3 s t k)

section
open Cert.KernelIdeal Cert.KernelIdeal.Gen

/-- One lane of the kernel is the mean over the network's rows. -/
theorem lane_net (W : Fin 2 → Fin 2 → Weights) (q0 : Fin 64 → Fin 64 → ℝ) (q1 : Fin 16 → Fin 64 → ℝ)
    (x1 : Vec Ideal S8x64 .f32) (x2 : Vec Ideal S1x64 .f32) (x3 : Vec Ideal S2x2x64x192 .f32) (x4 : Vec Ideal S2x2x64 .f32)
    (x5 : Vec Ideal S64x64 .f32) (x6 : Vec Ideal S16x64 .f32) (x : Vec Ideal S1x512x8 .f32)
    (ha : ∀ s t (k l : Fin 64), x3 (ix4 s t k ⟨l.val, by omega⟩) = ((W s t).a k l : EReal))
    (hu : ∀ s t (k l : Fin 64), x3 (ix4 s t k ⟨64 + l.val, by omega⟩) = (W s t).uh k l)
    (hv : ∀ s t (k l : Fin 64), x3 (ix4 s t k ⟨128 + l.val, by omega⟩) = ((∑ j, (W s t).m k j * (W s t).um j l : ℝ) : EReal))
    (hb : ∀ s t o, x4 (ix3 s t o) = (W s t).bu o + ∑ k, (W s t).bm k * ((W s t).um k o : EReal))
    (h5 : ∀ k l, x5 (ix2 k l) = (q0 k l : EReal)) (h6 : ∀ k l, x6 (ix2 k l) = (q1 k l : EReal)) (o : Fin 64) :
    lane x1 x2 x3 x4 x5 x6 x (ix2 0 o)
      = meanOf (net W q0 q1 (embedded (fun i k => x (ix3 0 i k)) (fun k o => x1 (ix2 k o)) fun o => x2 (ix2 0 o))) o := by
  have h18 : ∀ (k : Fin 64) (l : Fin 192), View.ld x3 r0_18 (ix4 0 0 k l) = x3 (ix4 0 0 k l) := fun k l => by pointwise
  have h20 : ∀ (k : Fin 64) (l : Fin 192), View.ld x3 r0_20 (ix4 0 0 k l) = x3 (ix4 0 1 k l) := fun k l => by pointwise
  have h23 : ∀ (k : Fin 64) (l : Fin 192), View.ld x3 r0_23 (ix4 0 0 k l) = x3 (ix4 1 0 k l) := fun k l => by pointwise
  have h25 : ∀ (k : Fin 64) (l : Fin 192), View.ld x3 r0_25 (ix4 0 0 k l) = x3 (ix4 1 1 k l) := fun k l => by pointwise
  have h19 : ∀ o : Fin 64, View.ld x4 r0_19 (ix3 0 0 o) = x4 (ix3 0 0 o) := fun o => by pointwise
  have h21 : ∀ o : Fin 64, View.ld x4 r0_21 (ix3 0 0 o) = x4 (ix3 0 1 o) := fun o => by pointwise
  have h24 : ∀ o : Fin 64, View.ld x4 r0_24 (ix3 0 0 o) = x4 (ix3 1 0 o) := fun o => by pointwise
  have h26 : ∀ o : Fin 64, View.ld x4 r0_26 (ix3 0 0 o) = x4 (ix3 1 1 o) := fun o => by pointwise
  have h1 : ∀ (k : Fin 8) (o : Fin 64), View.ld x1 r0_1 (ix2 k o) = x1 (ix2 k o) := fun k o => by pointwise
  have h2 : ∀ o : Fin 64, View.ld x2 r0_2 (ix2 0 o) = x2 (ix2 0 o) := fun o => by pointwise
  have h22 : ∀ k l : Fin 64, View.ld x5 r0_22 (ix2 k l) = (q0 k l : EReal) := fun k l => by
    rw [← h5]; pointwise
  have h27 : ∀ (k : Fin 16) (l : Fin 64), View.ld x6 r0_27 (ix2 k l) = (q1 k l : EReal) := fun k l => by
    rw [← h6]; pointwise
  have e0 := fun i o => embed_real x (View.ld x1 r0_1) (View.ld x2 r0_2) i o
  simp only [h1, h2] at e0
  have e1 := fun i o => step512_real (W 0 0) _ _ (View.ld x3 r0_18) (View.ld x4 r0_19) e0
    (fun k l => (h18 k _).trans (ha 0 0 k l)) (fun k l => (h18 k _).trans (hu 0 0 k l))
    (fun k l => (h18 k _).trans (hv 0 0 k l)) (fun o => (h19 o).trans (hb 0 0 o)) i o
  have e2 := fun i o => step512_real (W 0 1) _ _ (View.ld x3 r0_20) (View.ld x4 r0_21) e1
    (fun k l => (h20 k _).trans (ha 0 1 k l)) (fun k l => (h20 k _).trans (hu 0 1 k l))
    (fun k l => (h20 k _).trans (hv 0 1 k l)) (fun o => (h21 o).trans (hb 0 1 o)) i o
  have e3 := fun i o => pool512_real q0 _ _ (View.ld x5 r0_22) e2 h22 i o
  have e4 := fun i o => step64_real (W 1 0) _ _ (View.ld x3 r0_23) (View.ld x4 r0_24) e3
    (fun k l => (h23 k _).trans (ha 1 0 k l)) (fun k l => (h23 k _).trans (hu 1 0 k l))
    (fun k l => (h23 k _).trans (hv 1 0 k l)) (fun o => (h24 o).trans (hb 1 0 o)) i o
  have e5 := fun i o => step64_real (W 1 1) _ _ (View.ld x3 r0_25) (View.ld x4 r0_26) e4
    (fun k l => (h25 k _).trans (ha 1 1 k l)) (fun k l => (h25 k _).trans (hu 1 1 k l))
    (fun k l => (h25 k _).trans (hv 1 1 k l)) (fun o => (h26 o).trans (hb 1 1 o)) i o
  have e6 := fun i o => pool64_real q1 _ _ (View.ld x6 r0_27) e5 h27 i o
  rw [lane, meanRow_at]
  simp only [e6]
  rfl

end

section
open Cert.ReferenceIdeal Cert.ReferenceIdeal.Gen

/-- The reference's result, stage by stage, from its arguments. -/
def plainOut (x : FVec Ideal S128x512x8 .f32) (mask : FVec Ideal S128x512x1 .f32) (we : FVec Ideal S8x64 .f32)
    (be : FVec Ideal S64 .f32) (a wm : FVec Ideal S2x2x64x64 .f32) (bm : FVec Ideal S2x2x64 .f32)
    (wu : FVec Ideal S2x2x128x64 .f32) (bu : FVec Ideal S2x2x64 .f32) (w0 : FVec Ideal S64x64 .f32)
    (w1 : FVec Ideal S16x64 .f32) (wr : FVec Ideal S64x64 .f32) (br : FVec Ideal S64 .f32) : FVec Ideal S128x1x64 .f32 :=
  let h0 := Plain.embed x we be
  let h1 := Plain.step512 h0 mask (Plain.sqAt 0 0 a) (Plain.sqAt 0 0 wm) (Plain.biasAt 0 0 bm) (Plain.tallAt 0 0 wu) (Plain.biasAt 0 0 bu)
  let h2 := Plain.step512 h1 mask (Plain.sqAt 0 1 a) (Plain.sqAt 0 1 wm) (Plain.biasAt 0 1 bm) (Plain.tallAt 0 1 wu) (Plain.biasAt 0 1 bu)
  let h3 := Plain.pool512 h2 w0
  let h4 := Plain.step64 h3 (Plain.sqAt 1 0 a) (Plain.sqAt 1 0 wm) (Plain.biasAt 1 0 bm) (Plain.tallAt 1 0 wu) (Plain.biasAt 1 0 bu)
  let h5 := Plain.step64 h4 (Plain.sqAt 1 1 a) (Plain.sqAt 1 1 wm) (Plain.biasAt 1 1 bm) (Plain.tallAt 1 1 wu) (Plain.biasAt 1 1 bu)
  Plain.readout (Plain.pool64 h5 w1) wr br

/-- The reference's result is the last layer on the means over the network's rows. -/
theorem plain_net (x : FVec Ideal S128x512x8 .f32) (mask : FVec Ideal S128x512x1 .f32) (we : FVec Ideal S8x64 .f32)
    (be : FVec Ideal S64 .f32) (a wm : FVec Ideal S2x2x64x64 .f32) (bm : FVec Ideal S2x2x64 .f32)
    (wu : FVec Ideal S2x2x128x64 .f32) (bu : FVec Ideal S2x2x64 .f32) (w0 : FVec Ideal S64x64 .f32)
    (w1 : FVec Ideal S16x64 .f32) (wr : FVec Ideal S64x64 .f32) (br : FVec Ideal S64 .f32)
    (hm : ∀ n i, mask (ix3 n i 0) = 1)
    (ha : ∀ s t k l, a (ix4 s t k l) = (EReal.toReal (a (ix4 s t k l)) : EReal))
    (hw : ∀ s t k l, wm (ix4 s t k l) = (EReal.toReal (wm (ix4 s t k l)) : EReal))
    (hu : ∀ s t (k l : Fin 64), wu (ix4 s t ⟨64 + k.val, by omega⟩ l) = (EReal.toReal (wu (ix4 s t ⟨64 + k.val, by omega⟩ l)) : EReal))
    (h0 : ∀ k l, w0 (ix2 k l) = (EReal.toReal (w0 (ix2 k l)) : EReal))
    (h1 : ∀ k l, w1 (ix2 k l) = (EReal.toReal (w1 (ix2 k l)) : EReal)) (n : Fin 128) (o : Fin 64) :
    plainOut x mask we be a wm bm wu bu w0 w1 wr br (ix3 n 0 o)
      = ∑ k, meanOf (net (weightsOf a wm bm wu bu) (fun k l => EReal.toReal (w0 (ix2 k l))) (fun k l => EReal.toReal (w1 (ix2 k l)))
          (embedded (fun i k => x (ix3 n i k)) (fun k o => we (ix2 k o)) fun o => be (ix1 o))) k * wr (ix2 k o) + br (ix1 o) := by
  have e0 := fun n i o => Plain.embed_real x we be n i o
  have e1 := fun n i o => Plain.step512_real (weightsOf a wm bm wu bu 0 0) _ _ mask _ _ _ _ _ e0 hm
    (fun k l => (Plain.sqAt_at 0 0 a k l).trans (ha 0 0 k l)) (fun k l => (Plain.sqAt_at 0 0 wm k l).trans (hw 0 0 k l))
    (fun k => Plain.biasAt_at 0 0 bm k) (fun k l => Plain.tallAt_at 0 0 wu _ l)
    (fun k l => (Plain.tallAt_at 0 0 wu _ l).trans (hu 0 0 k l)) (fun k => Plain.biasAt_at 0 0 bu k) n i o
  have e2 := fun n i o => Plain.step512_real (weightsOf a wm bm wu bu 0 1) _ _ mask _ _ _ _ _ e1 hm
    (fun k l => (Plain.sqAt_at 0 1 a k l).trans (ha 0 1 k l)) (fun k l => (Plain.sqAt_at 0 1 wm k l).trans (hw 0 1 k l))
    (fun k => Plain.biasAt_at 0 1 bm k) (fun k l => Plain.tallAt_at 0 1 wu _ l)
    (fun k l => (Plain.tallAt_at 0 1 wu _ l).trans (hu 0 1 k l)) (fun k => Plain.biasAt_at 0 1 bu k) n i o
  have e3 := fun n i o => Plain.pool512_real (fun k l => EReal.toReal (w0 (ix2 k l))) _ _ w0 e2 h0 n i o
  have e4 := fun n i o => Plain.step64_real (weightsOf a wm bm wu bu 1 0) _ _ _ _ _ _ _ e3
    (fun k l => (Plain.sqAt_at 1 0 a k l).trans (ha 1 0 k l)) (fun k l => (Plain.sqAt_at 1 0 wm k l).trans (hw 1 0 k l))
    (fun k => Plain.biasAt_at 1 0 bm k) (fun k l => Plain.tallAt_at 1 0 wu _ l)
    (fun k l => (Plain.tallAt_at 1 0 wu _ l).trans (hu 1 0 k l)) (fun k => Plain.biasAt_at 1 0 bu k) n i o
  have e5 := fun n i o => Plain.step64_real (weightsOf a wm bm wu bu 1 1) _ _ _ _ _ _ _ e4
    (fun k l => (Plain.sqAt_at 1 1 a k l).trans (ha 1 1 k l)) (fun k l => (Plain.sqAt_at 1 1 wm k l).trans (hw 1 1 k l))
    (fun k => Plain.biasAt_at 1 1 bm k) (fun k l => Plain.tallAt_at 1 1 wu _ l)
    (fun k l => (Plain.tallAt_at 1 1 wu _ l).trans (hu 1 1 k l)) (fun k => Plain.biasAt_at 1 1 bu k) n i o
  have e6 := fun n i o => Plain.pool64_real (fun k l => EReal.toReal (w1 (ix2 k l))) _ _ w1 e5 h1 n i o
  rw [plainOut, Plain.readout_at]
  simp only [e6]
  rfl

end

end Cert.Jets
-- ==== Proof.Block.lean ====
module

public import proofs.«01_k».proof.Proof.Net

/-!
# One row of a stored block is the reference's row

When the blocks hold the arguments' entries, and the combined weights the sums they stand for, the
row the kernel stores for a jet is the row the reference computes for it.
-/

@[expose] public section

set_option maxRecDepth 16384

noncomputable section

namespace Cert.Jets

open Idealize.ShloMosaic Idealize.SL.Sem
open Cert.KernelIdeal Cert.KernelIdeal.Gen

/-- The stored row of jet `j` of a block, when that jet is jet `n` of all. -/
theorem block_net (x0 : Vec Ideal S16x512x8 .f32)
    (x1 : Vec Ideal S8x64 .f32) (x2 : Vec Ideal S1x64 .f32) (x3 : Vec Ideal S2x2x64x192 .f32) (x4 : Vec Ideal S2x2x64 .f32)
    (x5 : Vec Ideal S64x64 .f32) (x6 : Vec Ideal S16x64 .f32) (x7 : Vec Ideal S64x64 .f32) (x8 : Vec Ideal S1x64 .f32)
    (x : FVec Ideal S128x512x8 .f32) (mask : FVec Ideal S128x512x1 .f32) (we : FVec Ideal S8x64 .f32)
    (be : FVec Ideal S64 .f32) (a wm : FVec Ideal S2x2x64x64 .f32) (bm : FVec Ideal S2x2x64 .f32)
    (wu : FVec Ideal S2x2x128x64 .f32) (bu : FVec Ideal S2x2x64 .f32) (w0 : FVec Ideal S64x64 .f32)
    (w1 : FVec Ideal S16x64 .f32) (wr : FVec Ideal S64x64 .f32) (br : FVec Ideal S64 .f32) (j : Fin 16) (n : Fin 128)
    (h0 : ∀ i k, x0 (ix3 j i k) = x (ix3 n i k)) (h1 : ∀ k o, x1 (ix2 k o) = we (ix2 k o))
    (h2 : ∀ o, x2 (ix2 0 o) = be (ix1 o))
    (ha : ∀ s t (k l : Fin 64), x3 (ix4 s t k ⟨l.val, by omega⟩) = a (ix4 s t k l))
    (hu : ∀ s t (k l : Fin 64), x3 (ix4 s t k ⟨64 + l.val, by omega⟩) = wu (ix4 s t ⟨k.val, by omega⟩ l))
    (hv : ∀ s t (k l : Fin 64), x3 (ix4 s t k ⟨128 + l.val, by omega⟩)
      = ∑ i : Fin 64, wm (ix4 s t k i) * wu (ix4 s t ⟨64 + i.val, by omega⟩ l))
    (hb : ∀ s t o, x4 (ix3 s t o) = bu (ix3 s t o)
      + ∑ i : Fin 64, bm (ix3 s t i) * wu (ix4 s t ⟨64 + i.val, by omega⟩ o))
    (h5 : ∀ k l, x5 (ix2 k l) = w0 (ix2 k l)) (h6 : ∀ k l, x6 (ix2 k l) = w1 (ix2 k l))
    (h7 : ∀ k l, x7 (ix2 k l) = wr (ix2 k l)) (h8 : ∀ o, x8 (ix2 0 o) = br (ix1 o))
    (fm : ∀ n i, mask (ix3 n i 0) = 1)
    (fa : ∀ s t k l, a (ix4 s t k l) = (EReal.toReal (a (ix4 s t k l)) : EReal))
    (fw : ∀ s t k l, wm (ix4 s t k l) = (EReal.toReal (wm (ix4 s t k l)) : EReal))
    (fu : ∀ s t (k l : Fin 64), wu (ix4 s t ⟨64 + k.val, by omega⟩ l) = (EReal.toReal (wu (ix4 s t ⟨64 + k.val, by omega⟩ l)) : EReal))
    (f0 : ∀ k l, w0 (ix2 k l) = (EReal.toReal (w0 (ix2 k l)) : EReal))
    (f1 : ∀ k l, w1 (ix2 k l) = (EReal.toReal (w1 (ix2 k l)) : EReal)) (o : Fin 64) :
    readout (stack fun j => lane x1 x2 x3 x4 x5 x6 (jetsOf x0 j)) x7 x8 (ix3 j 0 o)
      = plainOut x mask we be a wm bm wu bu w0 w1 wr br (ix3 n 0 o) := by
  have hl := lane_net (weightsOf a wm bm wu bu) (fun k l => EReal.toReal (w0 (ix2 k l)))
    (fun k l => EReal.toReal (w1 (ix2 k l))) x1 x2 x3 x4 x5 x6 (jetsOf x0 j)
    (fun s t k l => (ha s t k l).trans (fa s t k l)) hu
    (fun s t k l => by
      rw [hv, coe_sum]
      refine Finset.sum_congr rfl fun i _ => ?_
      rw [EReal.coe_mul, fw, fu]
      rfl)
    (fun s t l => by
      rw [hb]
      refine congrArg (bu (ix3 s t l) + ·) (Finset.sum_congr rfl fun i _ => ?_)
      rw [fu]
      rfl)
    (fun k l => (h5 k l).trans (f0 k l)) (fun k l => (h6 k l).trans (f1 k l))
  have hx : (fun (i : Fin 512) (k : Fin 8) => jetsOf x0 j (ix3 0 i k)) = fun i k => x (ix3 n i k) := by
    funext i k
    rw [jetsOf_at, h0]
  have hw : (fun (k : Fin 8) (o : Fin 64) => x1 (ix2 k o)) = fun k o => we (ix2 k o) := by
    funext k o
    exact h1 k o
  have hb : (fun o : Fin 64 => x2 (ix2 0 o)) = fun o => be (ix1 o) := by
    funext o
    exact h2 o
  rw [hx, hw, hb] at hl
  rw [readout_at, plain_net x mask we be a wm bm wu bu w0 w1 wr br fm fa fw fu f0 f1 n o, h8]
  congr 1
  refine Finset.sum_congr rfl fun k _ => ?_
  rw [h7, stack_at, hl k]

end Cert.Jets
-- ==== Proof.Entry.lean ====
module

public import proofs.«01_k».proof.Proof.Gen.KernelIdeal.Value
public import Idealize.ShloMosaic.Lib.Pointwise
public import Idealize.ShloMosaic.Lib.Claim
public import Idealize.ShloMosaic.Lib.Pipeline.ValueKit

/-!
# What a grid point is handed

The input blocks of a grid point in terms of the launch's arguments: sixteen jets, and the weights
whole, some of them combined by the program before the grid starts.
-/

@[expose] public section

set_option maxRecDepth 16384

noncomputable section

namespace Cert.Jets

open Idealize.ShloMosaic Idealize.ShloMosaic.TcCoe Idealize.SL.Sem
open Cert.KernelIdeal Cert.KernelIdeal.Gen

/-- The update bias with the message bias carried through the update matrix. -/
def foldBias (bu bm : FVec Ideal S2x2x64 .f32) (wu : FVec Ideal S2x2x128x64 .f32) : FVec Ideal S2x2x64 .f32 :=
  addf bu (Host.dotGeneral dot_S2x2x64_S2x2x64x64_S2x2x64_2_2_n_3_01_01 none bm
    (extractStridedSlice S2x2x64x64 ![0, 0, 64, 0] wu slices_S2x2x128x64_S2x2x64x64_0_0_64_0))

/-- Score matrix, first half of the update matrix, and message matrix times second half, side by side. -/
def joined (a wm : FVec Ideal S2x2x64x64 .f32) (wu : FVec Ideal S2x2x128x64 .f32) : FVec Ideal S2x2x64x192 .f32 :=
  concatenate S2x2x64x192 3 [⟨S2x2x64x64, a⟩,
    ⟨S2x2x64x64, extractStridedSlice S2x2x64x64 ![0, 0, 0, 0] wu slices_S2x2x128x64_S2x2x64x64_0_0_0_0⟩,
    ⟨S2x2x64x64, Host.dotGeneral dot_S2x2x64x64_S2x2x64x64_S2x2x64x64_3_2_2_3_01_01 none wm
      (extractStridedSlice S2x2x64x64 ![0, 0, 64, 0] wu slices_S2x2x128x64_S2x2x64x64_0_0_64_0)⟩]
    concatenates_S2x2x64x64_S2x2x64x64_S2x2x64x64_S2x2x64x192_d3

theorem foldBias_at (bu bm : FVec Ideal S2x2x64 .f32) (wu : FVec Ideal S2x2x128x64 .f32) (s u : Fin 2) (o : Fin 64) :
    foldBias bu bm wu (ix3 s u o) = bu (ix3 s u o)
      + ∑ k : Fin 64, bm (ix3 s u k) * wu (ix4 s u ⟨64 + k.val, by omega⟩ o) := by
  pointwise [foldBias]

theorem joined_scores (a wm : FVec Ideal S2x2x64x64 .f32) (wu : FVec Ideal S2x2x128x64 .f32) (s u : Fin 2) (k l : Fin 64) :
    joined a wm wu (ix4 s u k ⟨l.val, by omega⟩) = a (ix4 s u k l) := by
  pointwise [joined]

theorem joined_hidden (a wm : FVec Ideal S2x2x64x64 .f32) (wu : FVec Ideal S2x2x128x64 .f32) (s u : Fin 2) (k l : Fin 64) :
    joined a wm wu (ix4 s u k ⟨64 + l.val, by omega⟩) = wu (ix4 s u ⟨k.val, by omega⟩ l) := by
  pointwise [joined]

theorem joined_message (a wm : FVec Ideal S2x2x64x64 .f32) (wu : FVec Ideal S2x2x128x64 .f32) (s u : Fin 2) (k l : Fin 64) :
    joined a wm wu (ix4 s u k ⟨128 + l.val, by omega⟩)
      = ∑ j : Fin 64, wm (ix4 s u k j) * wu (ix4 s u ⟨64 + j.val, by omega⟩ l) := by
  have h1 : ¬ 128 + l.val < 64 := by omega
  have h2 : ¬ 128 + l.val - 64 < 64 := by omega
  have h3 : 128 + l.val - 64 - 64 = l.val := by omega
  pointwise [joined]
  simp only [dif_neg h1, dif_neg h2, h3]

variable (m : (ℓ : Loc nD τ sig) → Buf (Elt Ideal) ℓ) (c : Dev nD) (t : Fin cfg0.N)

/-- Where each window's block sits at each grid point. -/
theorem idx : ∀ t : Fin cfg0.N, win0_0.index t = ![t.val, 0, 0] ∧ win0_1.index t = ![0, 0] ∧ win0_2.index t = ![0, 0]
    ∧ win0_3.index t = ![0, 0, 0, 0] ∧ win0_4.index t = ![0, 0, 0] ∧ win0_5.index t = ![0, 0] ∧ win0_6.index t = ![0, 0]
    ∧ win0_7.index t = ![0, 0] ∧ win0_8.index t = ![0, 0] ∧ win0_9.index t = ![t.val, 0, 0] :=
  (by decide +kernel : ∀ t : Fin grid0.N, _)

theorem jets_at (j : Fin 16) (i : Fin 512) (k : Fin 8) (n : Fin 128) (hn : n.val = t.val * 16 + j.val) :
    iblk m c 0 t (ix3 j i k) = m ((c : Thread nD τ).loc main_arg0) (ix3 n i k) := by
  blk_ext [iblk, V, idx t]

theorem wemb_at (k : Fin 8) (o : Fin 64) : iblk m c 1 t (ix2 k o) = m ((c : Thread nD τ).loc main_arg2) (ix2 k o) := by
  blk_ext [iblk, V, idx t]

theorem q0_at (k o : Fin 64) : iblk m c 5 t (ix2 k o) = m ((c : Thread nD τ).loc main_arg9) (ix2 k o) := by
  blk_ext [iblk, V, idx t]

theorem q1_at (k : Fin 16) (o : Fin 64) : iblk m c 6 t (ix2 k o) = m ((c : Thread nD τ).loc main_arg10) (ix2 k o) := by
  blk_ext [iblk, V, idx t]

theorem wro_at (k o : Fin 64) : iblk m c 7 t (ix2 k o) = m ((c : Thread nD τ).loc main_arg11) (ix2 k o) := by
  blk_ext [iblk, V, idx t]

theorem bemb_at (o : Fin 64) : iblk m c 2 t (ix2 0 o) = m ((c : Thread nD τ).loc main_arg3) (ix1 o) := by
  blk_point [iblk, V, idx t]

theorem bro_at (o : Fin 64) : iblk m c 8 t (ix2 0 o) = m ((c : Thread nD τ).loc main_arg12) (ix1 o) := by
  blk_point [iblk, V, idx t]

theorem bias_entry : V m c main_call0_v5 = foldBias (m ((c : Thread nD τ).loc main_arg8))
    (m ((c : Thread nD τ).loc main_arg6)) (m ((c : Thread nD τ).loc main_arg7)) := by
  entry_read
  rfl

theorem joined_entry : V m c main_call0_v7 = joined (m ((c : Thread nD τ).loc main_arg4))
    (m ((c : Thread nD τ).loc main_arg5)) (m ((c : Thread nD τ).loc main_arg7)) := by
  unfold V
  after_results
  rfl

theorem bias_at (s u : Fin 2) (o : Fin 64) :
    iblk m c 4 t (ix3 s u o) = foldBias (m ((c : Thread nD τ).loc main_arg8))
      (m ((c : Thread nD τ).loc main_arg6)) (m ((c : Thread nD τ).loc main_arg7)) (ix3 s u o) := by
  rw [← bias_entry]
  blk_ext [iblk, idx t]

theorem joined_at (s u : Fin 2) (k : Fin 64) (l : Fin 192) :
    iblk m c 3 t (ix4 s u k l) = joined (m ((c : Thread nD τ).loc main_arg4))
      (m ((c : Thread nD τ).loc main_arg5)) (m ((c : Thread nD τ).loc main_arg7)) (ix4 s u k l) := by
  rw [← joined_entry]
  blk_ext [iblk, idx t]

end Cert.Jets
-- ==== Proof.Final.lean ====
module

public import proofs.«01_k».proof.Proof.Block
public import proofs.«01_k».proof.Proof.Entry

/-!
# The kernel's result array is the reference's result

Every block the kernel writes holds the last layer on the means over its sixteen jets' networks;
the blocks fill the result, which so is the reference's, for finite weights and a mask of ones.
-/

@[expose] public section

set_option maxRecDepth 16384

noncomputable section

namespace Cert.Jets

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The reference's result from the kernel's arguments. -/
def target : FVec Ideal Cert.ReferenceIdeal.S128x1x64 .f32 :=
  plainOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- What the theorem asks of the arguments: the mask is one, and the weights that meet one another or
    an exponent are real numbers. -/
structure Fine : Prop where
  mask : ∀ n i, (m ((c : Thread nD τ).loc main_arg1) : FVec Ideal S128x512x1 .f32) (ix3 n i 0) = (1 : EReal)
  a : ∀ s t k l, (m ((c : Thread nD τ).loc main_arg4) : FVec Ideal S2x2x64x64 .f32) (ix4 s t k l)
    = (EReal.toReal ((m ((c : Thread nD τ).loc main_arg4) : FVec Ideal S2x2x64x64 .f32) (ix4 s t k l)) : EReal)
  wm : ∀ s t k l, (m ((c : Thread nD τ).loc main_arg5) : FVec Ideal S2x2x64x64 .f32) (ix4 s t k l)
    = (EReal.toReal ((m ((c : Thread nD τ).loc main_arg5) : FVec Ideal S2x2x64x64 .f32) (ix4 s t k l)) : EReal)
  wu : ∀ s t (k l : Fin 64), (m ((c : Thread nD τ).loc main_arg7) : FVec Ideal S2x2x128x64 .f32) (ix4 s t ⟨64 + k.val, by omega⟩ l)
    = (EReal.toReal ((m ((c : Thread nD τ).loc main_arg7) : FVec Ideal S2x2x128x64 .f32) (ix4 s t ⟨64 + k.val, by omega⟩ l)) : EReal)
  q0 : ∀ k l, (m ((c : Thread nD τ).loc main_arg9) : FVec Ideal S64x64 .f32) (ix2 k l)
    = (EReal.toReal ((m ((c : Thread nD τ).loc main_arg9) : FVec Ideal S64x64 .f32) (ix2 k l)) : EReal)
  q1 : ∀ k l, (m ((c : Thread nD τ).loc main_arg10) : FVec Ideal S16x64 .f32) (ix2 k l)
    = (EReal.toReal ((m ((c : Thread nD τ).loc main_arg10) : FVec Ideal S16x64 .f32) (ix2 k l)) : EReal)

/-- What grid point `t` computes at row `j`, column `o` is the reference's entry of jet `16 t + j`. -/
theorem point (H : Fine m c) (t : Fin cfg0.N) (j : Fin 16) (o : Fin 64) (n : Fin 128) (hn : n.val = t.val * 16 + j.val) :
    readout (stack fun j => lane (iblk m c 1 t) (iblk m c 2 t) (iblk m c 3 t) (iblk m c 4 t) (iblk m c 5 t) (iblk m c 6 t)
        (jetsOf (iblk m c 0 t) j)) (iblk m c 7 t) (iblk m c 8 t) (ix3 j 0 o)
      = target m c (ix3 n 0 o) := by
  exact block_net (iblk m c 0 t) (iblk m c 1 t) (iblk m c 2 t) (iblk m c 3 t) (iblk m c 4 t) (iblk m c 5 t) (iblk m c 6 t) (iblk m c 7 t) (iblk m c 8 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) j n
    (fun i k => jets_at m c t j i k n hn) (wemb_at m c t) (bemb_at m c t)
    (fun s u k l => (joined_at m c t s u k _).trans (joined_scores _ _ _ s u k l))
    (fun s u k l => (joined_at m c t s u k _).trans (joined_hidden _ _ _ s u k l))
    (fun s u k l => (joined_at m c t s u k _).trans (joined_message _ _ _ s u k l))
    (fun s u l => (bias_at m c t s u l).trans (foldBias_at _ _ _ s u l))
    (q0_at m c t) (q1_at m c t) (wro_at m c t) (bro_at m c t) H.mask H.a H.wm H.wu H.q0 H.q1 o

/-- The result array after the run. -/
theorem final (H : Fine m c) : (dats m 0 c).arrAt 9 cfg0.N = target m c := by
  refine (dats m 0 c).arrAt_eq_of_covers 9 _ (by decide +kernel) fun t _ y => ?_
  blk_simp
  rw [after0_9, out_eq]
  frame_out
  have hy : ∀ y : S16x1x64.Idx, y = ix3 (y 0) 0 (y 2) := fun y => by
    idx_vars y
    blk_ext
  have ht : t.val < 8 := t.isLt
  have hb : (y 0).val < 16 := (y 0).isLt
  refine (congrArg _ (hy y)).trans ((point m c H t (y 0) (y 2) ⟨t.val * 16 + (y 0).val, by omega⟩ rfl).trans ?_)
  blk_ext [idx t]

end Cert.Jets
-- ==== Proof.Finite.lean ====
module

public import proofs.«01_k».proof.Proof.Final
public import proofs.«01_k».proof.Defs
public import Idealize.ShloMosaic.Lib.ReduceAll

/-!
# What the precondition says

The precondition, one truth value, taken apart: every entry of the mask is one, and every entry of the
weights it names is a real number.
-/

@[expose] public section

set_option maxRecDepth 16384

noncomputable section

namespace Cert.Jets

open Idealize.ShloMosaic Idealize.ShloMosaic.TcCoe Idealize.SL.Sem

/-- The shape facts the precondition's program states. -/
theorem preFacts : Cert.Pre_full_mask_finite_weights.Facts where
  bcast_S_S128x512x1 := by decide
  reducesTo_S128x512x1_S_d0_1_2 := by decide
  h_S_ := by decide
  slices_S2x2x128x64_S2x2x64x64_0_0_64_0 := by decide
  bcast_S_S2x2x64x64 := by decide
  reducesTo_S2x2x64x64_S_d0_1_2_3 := by decide
  bcast_S_S64x64 := by decide
  reducesTo_S64x64_S_d0_1 := by decide
  bcast_S_S16x64 := by decide
  reducesTo_S16x64_S_d0_1 := by decide

/-- A conjunction of truth values is true only when both are. -/
theorem both_one {x y : BitVec 1} (h : IntOp.andi x y = 1#1) : x = 1#1 ∧ y = 1#1 := by
  revert x y
  decide

theorem true_of_word {b : Bool} (h : BitVec.ofBool b = 1#1) : b = true := by
  revert b
  decide

/-- A number whose absolute value is below plus infinity is real. -/
theorem real_of_below (x : EReal) (h : Ideal.cmp .olt (max x (-x)) (Ideal.ofBits .f32 0x7F800000#32) = 1#1) :
    x = (x.toReal : EReal) := by
  rw [ofBits_top] at h
  have hlt : max x (-x) < ⊤ := of_decide_eq_true (true_of_word h)
  refine (EReal.coe_toReal ?_ ?_).symm
  · rintro rfl
    simp at hlt
  · rintro rfl
    simp at hlt

/-- The f32 pattern of one. -/
theorem ofBits_one : Ideal.ofBits .f32 0x3F800000#32 = 1 := by
  simp [Ideal.ofBits, Ideal.ieee, -EReal.coe_mul]; norm_num

/-- A number equal to one by the comparison is one. -/
theorem one_of_equal (x : EReal) (h : Ideal.cmp .oeq x (Ideal.ofBits .f32 0x3F800000#32) = 1#1) : x = 1 := by
  rw [ofBits_one] at h
  exact of_decide_eq_true (true_of_word h)

section
open Cert.Pre_full_mask_finite_weights

theorem one_index : Subsingleton S_.Idx := ⟨fun a b => funext fun i => i.elim0⟩

/-- An array all of whose entries pass the finiteness test has real entries. -/
theorem real_of_all {s : Shape} {axes : List (Fin s.rank)} (x : FVec Ideal s .f32) (hb : S_.BroadcastsInDim s ![])
    (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : x i = (EReal.toReal (x i) : EReal) :=
  real_of_below _ (have := one_index; Host.reduce_andi_all _ _ h hu j e i)

/-- An array all of whose entries pass the test for one is one everywhere. -/
theorem one_of_all {s : Shape} {axes : List (Fin s.rank)} (x : FVec Ideal s .f32) (hb : S_.BroadcastsInDim s ![])
    (h : s.ReducesTo axes S_) (hu : 0 < S_.numel) (j : S_.Idx)
    (e : Host.reduce IntOp.andi (cmpf .oeq x (broadcastInDim s ![] hb (constant S_ .f32 0x3F800000#32)))
      (constantI S_ 1 1#1) h hu j = 1#1) (i : s.Idx) : x i = (1 : EReal) :=
  one_of_equal _ (have := one_index; Host.reduce_andi_all _ _ h hu j e i)

/-- The precondition taken apart. -/
theorem pre_parts [Facts] (x : FVec Ideal S128x512x8 .f32) (mask : FVec Ideal S128x512x1 .f32) (we : FVec Ideal S8x64 .f32)
    (be : FVec Ideal S64 .f32) (a wm : FVec Ideal S2x2x64x64 .f32) (bm : FVec Ideal S2x2x64 .f32)
    (wu : FVec Ideal S2x2x128x64 .f32) (bu : FVec Ideal S2x2x64 .f32) (w0 : FVec Ideal S64x64 .f32)
    (w1 : FVec Ideal S16x64 .f32) (wr : FVec Ideal S64x64 .f32) (br : FVec Ideal S64 .f32)
    (h : fn (F := Ideal) x mask we be a wm bm wu bu w0 w1 wr br = fun _ => 1#1) :
    (∀ i, mask i = (1 : EReal)) ∧ (∀ i, a i = (EReal.toReal (a i) : EReal)) ∧ (∀ i, wm i = (EReal.toReal (wm i) : EReal))
      ∧ (∀ i, extractStridedSlice S2x2x64x64 ![0, 0, 64, 0] wu Facts.slices_S2x2x128x64_S2x2x64x64_0_0_64_0 i
          = (EReal.toReal (extractStridedSlice S2x2x64x64 ![0, 0, 64, 0] wu Facts.slices_S2x2x128x64_S2x2x64x64_0_0_64_0 i) : EReal))
      ∧ (∀ i, w0 i = (EReal.toReal (w0 i) : EReal)) ∧ (∀ i, w1 i = (EReal.toReal (w1 i) : EReal)) := by
  have h' := congrFun h (Shape.Idx.first Facts.h_S_)
  dsimp only [fn, fn_part1] at h'
  obtain ⟨h', e1⟩ := both_one h'
  obtain ⟨h', e0⟩ := both_one h'
  obtain ⟨h', eu⟩ := both_one h'
  obtain ⟨h', ew⟩ := both_one h'
  obtain ⟨em, ea⟩ := both_one h'
  exact ⟨one_of_all mask _ _ _ _ em, real_of_all a _ _ _ _ ea, real_of_all wm _ _ _ _ ew, real_of_all _ _ _ _ _ eu,
    real_of_all w0 _ _ _ _ e0, real_of_all w1 _ _ _ _ e1⟩

end

section
open Cert.KernelIdeal Cert.KernelIdeal.Gen

/-- Arguments that meet the precondition are as the theorem about the result array asks. -/
theorem fine_of_pre [Cert.Pre_full_mask_finite_weights.Facts] (m : (ℓ : Loc nD τ sig) → Buf (Elt Ideal) ℓ)
    (h : Cert.Pre_KernelIdeal_full_mask_finite_weights m) (c : Dev nD) : Fine m c := by
  obtain ⟨hm, ha, hw, hu, h0, h1⟩ := pre_parts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (h c)
  refine ⟨fun n i => hm _, fun s t k l => ha _, fun s t k l => hw _, fun s t k l => ?_, fun k l => h0 _, fun k l => h1 _⟩
  have hr : ∀ (w : FVec Ideal S2x2x128x64 .f32) (g : S2x2x128x64.Slices ![0, 0, 64, 0] S2x2x64x64),
      extractStridedSlice S2x2x64x64 ![0, 0, 64, 0] w g (ix4 s t k l) = w (ix4 s t ⟨64 + k.val, by omega⟩ l) := fun w g => by
    pointwise
  have hk := hu (ix4 s t k l)
  exact (hr _ _).symm.trans (hk.trans (congrArg (fun v : EReal => (v.toReal : EReal)) (hr _ _)))

end

end Cert.Jets
-- ==== Proof.Algebraic.lean ====
module

public import proofs.«01_k».proof.Proof.Finite

/-!
# Kernel and reference agree

Under the precondition the kernel's result array is the network's output, and so is the reference's; the
two programs hold the same arguments, so the two results are equal.
-/

@[expose] public section

set_option maxRecDepth 16384

noncomputable section

namespace Cert.Jets

open Idealize.ShloMosaic Idealize.ShloMosaic.TcCoe Idealize.SL.Sem

section
open Cert.ReferenceIdeal Cert.ReferenceIdeal.Gen Cert.ReferenceIdeal.Value

/-- The stages composed are the last layer on the reference's last step. -/
theorem plain_value (V0 : Valuation τ sig (Elt Ideal)) :
    Plain.readout (Plain.pool64 (res_main_v202 V0) (V0 (Proc.devRef .tc main_arg10))) (V0 (Proc.devRef .tc main_arg11))
        (V0 (Proc.devRef .tc main_arg12))
      = plainOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [Plain.v202_eq, Plain.v166_eq, Plain.v120_eq, Plain.v104_eq, Plain.v59_eq, Plain.v4_eq]
  rfl

end

open Cert.KernelIdeal Cert.KernelIdeal.Gen in
/-- The network's output on the reference's arguments is the network's output on the kernel's. -/
theorem same_target (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    plainOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = target m c := by
  unfold target
  rw [a0, a1, a2, a3, a4, a5, a6, a7, a8, a9, a10, a11, a12]

end Cert.Jets
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.ShloMosaic.StableHlo Idealize.SL.Sem

/-- The reference runs, keeps its arguments and ends with every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The constant of the idealized kernel has the value stated for it. -/
theorem preserves : Cert.preserves_Kernel_KernelIdeal :=
  IdealRules.named_const.statement Cert.KernelIdeal.κ "c" .f32 0x3E38AA3B#32 _ rfl

/-- Under the precondition kernel and reference leave the same result. -/
theorem algebraic : Cert.algebraic_KernelIdeal_ReferenceIdeal_pre_full_mask_finite_weights
    (hKernelIdeal := Cert.KernelIdeal.Gen.facts) (hReferenceIdeal := Cert.ReferenceIdeal.Gen.facts)
    (hPre_full_mask_finite_weights := Cert.Jets.preFacts) := by
  intro m g m' g' hpre hagree
  have := Cert.Jets.preFacts
  refine ⟨_, Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  obtain ⟨a0, a1, a2, a3, a4, a5, a6, a7, a8, a9, a10, a11, a12⟩ := hagree c
  exact (Cert.Jets.plain_value (launchContents m' c)).trans
    ((Cert.Jets.same_target m m' c a0 a1 a2 a3 a4 a5 a6 a7 a8 a9 a10 a11 a12).trans
      (Cert.Jets.final m c (Cert.Jets.fine_of_pre m hpre c)).symm)

theorem claim : Cert.Claim := ⟨Cert.Kernel.Gen.facts, Cert.KernelIdeal.Gen.facts, Cert.ReferenceIdeal.Gen.facts,
  Cert.Jets.preFacts, fun m ρ _ => Cert.Kernel.Gen.frame m ρ, fun m ρ _ => Cert.KernelIdeal.Gen.frame m ρ,
  fun m ρ _ => Cert.KernelIdeal.Gen.frame m ρ, reference_frame, fun m ρ _ => reference_frame m ρ trivial, preserves, algebraic⟩

end Cert.Proof

end
